-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v440) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S16384 : Shape := ⟨1, ![16384]⟩
abbrev S16384x1 : Shape := ⟨2, ![16384, 1]⟩
abbrev S1 : Shape := ⟨1, ![1]⟩
abbrev S3x16 : Shape := ⟨2, ![3, 16]⟩
abbrev S512x1000 : Shape := ⟨2, ![512, 1000]⟩
abbrev S512x1 : Shape := ⟨2, ![512, 1]⟩
abbrev S_ : Shape := ⟨0, ![]⟩
abbrev S512 : Shape := ⟨1, ![512]⟩
abbrev S1x16 : Shape := ⟨2, ![1, 16]⟩
abbrev S512x16 : Shape := ⟨2, ![512, 16]⟩
abbrev S16 : Shape := ⟨1, ![16]⟩
abbrev S1x1x16 : Shape := ⟨3, ![1, 1, 16]⟩
abbrev S1x1x1 : Shape := ⟨3, ![1, 1, 1]⟩

abbrev nBuf : Space → Nat
  | .hbm => 4
  | .vmem => 9
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1, .i32⟩
  | .hbm, ⟨3, _⟩ => ⟨S1, .f32⟩
  | .local _ .vmem, ⟨0, _⟩ => ⟨S3x16, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .smem, ⟨0, _⟩ => ⟨S1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c8_i32 : BitVec 32 := 8#32
  let v12 : BitVec 32 := Scalar.addi c0_i32_13 c8_i32
  let c1_i32 : BitVec 32 := 1#32
  ⟨c0_i32_13, v12, c1_i32⟩
def k0_off1 (k0_t1 : Fin k0_t1_loop.trips) (c0_i32_21 : BitVec 32) : Fin 2 → Nat :=
  let c0_i32_13 : BitVec 32 := 0#32
  let c1_i32 : BitVec 32 := 1#32
  let arg20 : BitVec 32 := Scf.iv c0_i32_13 c1_i32 k0_t1
  let c4_i32 : BitVec 32 := 4#32
  let v31 : BitVec 32 := Scalar.muli arg20 c4_i32
  let v32 : BitVec 32 := Scalar.addi v31 c0_i32_21
  let c512_i32_22 : BitVec 32 := 512#32
  let v33 : BitVec 32 := Scalar.muli v32 c512_i32_22
  let c0_i32_23 : BitVec 32 := 0#32
  ![v33.toNat, 0]
def k0_off2 (k0_t1 : Fin k0_t1_loop.trips) (c0_i32_21 : BitVec 32) : Fin 2 → Nat :=
  let c0_i32_13 : BitVec 32 := 0#32
  let c1_i32 : BitVec 32 := 1#32
  let arg20 : BitVec 32 := Scf.iv c0_i32_13 c1_i32 k0_t1
  let c4_i32 : BitVec 32 := 4#32
  let v31 : BitVec 32 := Scalar.muli arg20 c4_i32
  let v32 : BitVec 32 := Scalar.addi v31 c0_i32_21
  let c512_i32_24 : BitVec 32 := 512#32
  let v35 : BitVec 32 := Scalar.muli v32 c512_i32_24
  let c0_i32_25 : BitVec 32 := 0#32
  ![v35.toNat, 0]
def k0_cond1 (k0_t1 : Fin k0_t1_loop.trips) : BitVec 1 :=
  let c0_i32_13 : BitVec 32 := 0#32
  let c1_i32 : BitVec 32 := 1#32
  let arg20 : BitVec 32 := Scf.iv c0_i32_13 c1_i32 k0_t1
  let c4_i32 : BitVec 32 := 4#32
  let v31 : BitVec 32 := Scalar.muli arg20 c4_i32
  let c0_i32_21 : BitVec 32 := 0#32
  let v32 : BitVec 32 := Scalar.addi v31 c0_i32_21
  let c4_i32_44 : BitVec 32 := 4#32
  let v93 : BitVec 32 := Scalar.addi v32 c4_i32_44
  let c32_i32 : BitVec 32 := 32#32
  let v94 : BitVec 1 := Scalar.cmpi .slt v93 c32_i32
  let v95 : BitVec 32 := Scalar.extui v94
  let c0_i32_45 : BitVec 32 := 0#32
  let v96 : BitVec 1 := Scalar.cmpi .ne v95 c0_i32_45
  v96

def k0_off3 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32 : BitVec 32 := 4#32
  let v31 : BitVec 32 := Scalar.muli arg20 c4_i32
  let c0_i32_21 : BitVec 32 := 0#32
  let v32 : BitVec 32 := Scalar.addi v31 c0_i32_21
  let c4_i32_128 : BitVec 32 := 4#32
  let v295 : BitVec 32 := Scalar.addi v32 c4_i32_128
  let c512_i32_129 : BitVec 32 := 512#32
  let v296 : BitVec 32 := Scalar.muli v295 c512_i32_129
  let c0_i32_130 : BitVec 32 := 0#32
  ![v296.toNat, 0]
def k0_off4 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32 : BitVec 32 := 4#32
  let v31 : BitVec 32 := Scalar.muli arg20 c4_i32
  let c0_i32_21 : BitVec 32 := 0#32
  let v32 : BitVec 32 := Scalar.addi v31 c0_i32_21
  let c4_i32_131 : BitVec 32 := 4#32
  let v298 : BitVec 32 := Scalar.addi v32 c4_i32_131
  let c512_i32_132 : BitVec 32 := 512#32
  let v299 : BitVec 32 := Scalar.muli v298 c512_i32_132
  let c0_i32_133 : BitVec 32 := 0#32
  ![v299.toNat, 0]
def k0_cond2 (k0_t1 : Fin k0_t1_loop.trips) : BitVec 1 :=
  let c0_i32_13 : BitVec 32 := 0#32
  let c1_i32 : BitVec 32 := 1#32
  let arg20 : BitVec 32 := Scf.iv c0_i32_13 c1_i32 k0_t1
  let c4_i32_46 : BitVec 32 := 4#32
  let v97 : BitVec 32 := Scalar.muli arg20 c4_i32_46
  let c1_i32_47 : BitVec 32 := 1#32
  let v98 : BitVec 32 := Scalar.addi v97 c1_i32_47
  let c4_i32_71 : BitVec 32 := 4#32
  let v159 : BitVec 32 := Scalar.addi v98 c4_i32_71
  let c32_i32_72 : BitVec 32 := 32#32
  let v160 : BitVec 1 := Scalar.cmpi .slt v159 c32_i32_72
  let v161 : BitVec 32 := Scalar.extui v160
  let c0_i32_73 : BitVec 32 := 0#32
  let v162 : BitVec 1 := Scalar.cmpi .ne v161 c0_i32_73
  v162

def k0_off5 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_46 : BitVec 32 := 4#32
  let v97 : BitVec 32 := Scalar.muli arg20 c4_i32_46
  let c1_i32_47 : BitVec 32 := 1#32
  let v98 : BitVec 32 := Scalar.addi v97 c1_i32_47
  let c4_i32_128 : BitVec 32 := 4#32
  let v295 : BitVec 32 := Scalar.addi v98 c4_i32_128
  let c512_i32_129 : BitVec 32 := 512#32
  let v296 : BitVec 32 := Scalar.muli v295 c512_i32_129
  let c0_i32_130 : BitVec 32 := 0#32
  ![v296.toNat, 0]
def k0_off6 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_46 : BitVec 32 := 4#32
  let v97 : BitVec 32 := Scalar.muli arg20 c4_i32_46
  let c1_i32_47 : BitVec 32 := 1#32
  let v98 : BitVec 32 := Scalar.addi v97 c1_i32_47
  let c4_i32_131 : BitVec 32 := 4#32
  let v298 : BitVec 32 := Scalar.addi v98 c4_i32_131
  let c512_i32_132 : BitVec 32 := 512#32
  let v299 : BitVec 32 := Scalar.muli v298 c512_i32_132
  let c0_i32_133 : BitVec 32 := 0#32
  ![v299.toNat, 0]
def k0_cond3 (k0_t1 : Fin k0_t1_loop.trips) : BitVec 1 :=
  let c0_i32_13 : BitVec 32 := 0#32
  let c1_i32 : BitVec 32 := 1#32
  let arg20 : BitVec 32 := Scf.iv c0_i32_13 c1_i32 k0_t1
  let c4_i32_74 : BitVec 32 := 4#32
  let v163 : BitVec 32 := Scalar.muli arg20 c4_i32_74
  let c2_i32 : BitVec 32 := 2#32
  let v164 : BitVec 32 := Scalar.addi v163 c2_i32
  let c4_i32_98 : BitVec 32 := 4#32
  let v225 : BitVec 32 := Scalar.addi v164 c4_i32_98
  let c32_i32_99 : BitVec 32 := 32#32
  let v226 : BitVec 1 := Scalar.cmpi .slt v225 c32_i32_99
  let v227 : BitVec 32 := Scalar.extui v226
  let c0_i32_100 : BitVec 32 := 0#32
  let v228 : BitVec 1 := Scalar.cmpi .ne v227 c0_i32_100
  v228

def k0_off7 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_74 : BitVec 32 := 4#32
  let v163 : BitVec 32 := Scalar.muli arg20 c4_i32_74
  let c2_i32 : BitVec 32 := 2#32
  let v164 : BitVec 32 := Scalar.addi v163 c2_i32
  let c4_i32_128 : BitVec 32 := 4#32
  let v295 : BitVec 32 := Scalar.addi v164 c4_i32_128
  let c512_i32_129 : BitVec 32 := 512#32
  let v296 : BitVec 32 := Scalar.muli v295 c512_i32_129
  let c0_i32_130 : BitVec 32 := 0#32
  ![v296.toNat, 0]
def k0_off8 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_74 : BitVec 32 := 4#32
  let v163 : BitVec 32 := Scalar.muli arg20 c4_i32_74
  let c2_i32 : BitVec 32 := 2#32
  let v164 : BitVec 32 := Scalar.addi v163 c2_i32
  let c4_i32_131 : BitVec 32 := 4#32
  let v298 : BitVec 32 := Scalar.addi v164 c4_i32_131
  let c512_i32_132 : BitVec 32 := 512#32
  let v299 : BitVec 32 := Scalar.muli v298 c512_i32_132
  let c0_i32_133 : BitVec 32 := 0#32
  ![v299.toNat, 0]
def k0_cond4 (k0_t1 : Fin k0_t1_loop.trips) : BitVec 1 :=
  let c0_i32_13 : BitVec 32 := 0#32
  let c1_i32 : BitVec 32 := 1#32
  let arg20 : BitVec 32 := Scf.iv c0_i32_13 c1_i32 k0_t1
  let c4_i32_101 : BitVec 32 := 4#32
  let v229 : BitVec 32 := Scalar.muli arg20 c4_i32_101
  let c3_i32 : BitVec 32 := 3#32
  let v230 : BitVec 32 := Scalar.addi v229 c3_i32
  let c4_i32_125 : BitVec 32 := 4#32
  let v291 : BitVec 32 := Scalar.addi v230 c4_i32_125
  let c32_i32_126 : BitVec 32 := 32#32
  let v292 : BitVec 1 := Scalar.cmpi .slt v291 c32_i32_126
  let v293 : BitVec 32 := Scalar.extui v292
  let c0_i32_127 : BitVec 32 := 0#32
  let v294 : BitVec 1 := Scalar.cmpi .ne v293 c0_i32_127
  v294

def k0_off9 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_101 : BitVec 32 := 4#32
  let v229 : BitVec 32 := Scalar.muli arg20 c4_i32_101
  let c3_i32 : BitVec 32 := 3#32
  let v230 : BitVec 32 := Scalar.addi v229 c3_i32
  let c4_i32_128 : BitVec 32 := 4#32
  let v295 : BitVec 32 := Scalar.addi v230 c4_i32_128
  let c512_i32_129 : BitVec 32 := 512#32
  let v296 : BitVec 32 := Scalar.muli v295 c512_i32_129
  let c0_i32_130 : BitVec 32 := 0#32
  ![v296.toNat, 0]
def k0_off10 (k0_t1 : Fin k0_t1_loop.trips) : Fin 2 → Nat :=
  let c0_i32_13 : BitVec 32 := 0#32
  let c1_i32 : BitVec 32 := 1#32
  let arg20 : BitVec 32 := Scf.iv c0_i32_13 c1_i32 k0_t1
  let c4_i32_101 : BitVec 32 := 4#32
  let v229 : BitVec 32 := Scalar.muli arg20 c4_i32_101
  let c3_i32 : BitVec 32 := 3#32
  let v230 : BitVec 32 := Scalar.addi v229 c3_i32
  let c4_i32_131 : BitVec 32 := 4#32
  let v298 : BitVec 32 := Scalar.addi v230 c4_i32_131
  let c512_i32_132 : BitVec 32 := 512#32
  let v299 : BitVec 32 := Scalar.muli v298 c512_i32_132
  let c0_i32_133 : BitVec 32 := 0#32
  ![v299.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1000 : Shape := ⟨2, ![16384, 1000]⟩
abbrev S16384 : Shape := ⟨1, ![16384]⟩
abbrev S_ : Shape := ⟨0, ![]⟩
abbrev S15 : Shape := ⟨1, ![15]⟩
abbrev S1 : Shape := ⟨1, ![1]⟩
abbrev S16 : Shape := ⟨1, ![16]⟩
abbrev S16384x1 : Shape := ⟨2, ![16384, 1]⟩

abbrev nBuf : Space → Nat
  | .hbm => 655
  | .vmem => 0
  | .smem => 0
  | _ => 0

abbrev hbmTy0_0 (i : Nat) : BufTy := match i % 128 with
  | 0 => ⟨S16384x1000, .f32⟩
  | 1 => ⟨S16384, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S15, .f32⟩
  | 10 => ⟨S_, .f32⟩
  | 11 => ⟨S15, .f32⟩
  | 12 => ⟨S15, .f32⟩
  | 13 => ⟨S1, .f32⟩
  | 14 => ⟨S_, .f32⟩
  | 15 => ⟨S15, .f32⟩
  | 16 => ⟨S15, .f32⟩
  | 17 => ⟨S15, .f32⟩
  | 18 => ⟨S15, .f32⟩
  | 19 => ⟨S1, .f32⟩
  | 20 => ⟨S15, .f32⟩
  | 21 => ⟨S15, .f32⟩
  | 22 => ⟨S15, .f32⟩
  | 23 => ⟨S1, .f32⟩
  | 24 => ⟨S16, .f32⟩
  | 25 => ⟨S_, .f32⟩
  | 26 => ⟨S16, .f32⟩
  | 27 => ⟨S16, .f32⟩
  | 28 => ⟨S16, .f32⟩
  | 29 => ⟨S15, .f32⟩
  | 30 => ⟨S15, .f32⟩
  | 31 => ⟨S_, .f32⟩
  | 32 => ⟨S16384, .f32⟩
  | 33 => ⟨S_, .f32⟩
  | 34 => ⟨S16384, .f32⟩
  | 35 => ⟨S16384, .f32⟩
  | 36 => ⟨S16384x1, .f32⟩
  | 37 => ⟨S16384x1000, .f32⟩
  | 38 => ⟨S16384x1000, .f32⟩
  | 39 => ⟨S16384x1000, .f32⟩
  | 40 => ⟨S_, .f32⟩
  | 41 => ⟨S16384, .f32⟩
  | 42 => ⟨S16384x1, .f32⟩
  | 43 => ⟨S16384x1000, .f32⟩
  | 44 => ⟨S16384x1000, .f32⟩
  | 45 => ⟨S_, .f32⟩
  | 46 => ⟨S16384, .f32⟩
  | 47 => ⟨S16384x1000, .i32⟩
  | 48 => ⟨S_, .f32⟩
  | 49 => ⟨S_, .i32⟩
  | 50 => ⟨S16384, .f32⟩
  | 51 => ⟨S16384, .i32⟩
  | 52 => ⟨S16384, .i1⟩
  | 53 => ⟨S_, .f32⟩
  | 54 => ⟨S1, .f32⟩
  | 55 => ⟨S1, .f32⟩
  | 56 => ⟨S_, .f32⟩
  | 57 => ⟨S16384, .f32⟩
  | 58 => ⟨S16384, .i1⟩
  | 59 => ⟨S1, .f32⟩
  | 60 => ⟨S_, .f32⟩
  | 61 => ⟨S16384, .f32⟩
  | 62 => ⟨S16384, .i1⟩
  | 63 => ⟨S16384, .i1⟩
  | 64 => ⟨S16384, .f32⟩
  | 65 => ⟨S_, .f32⟩
  | 66 => ⟨S_, .f32⟩
  | 67 => ⟨S_, .f32⟩
  | 68 => ⟨S_, .f32⟩
  | 69 => ⟨S16384, .i32⟩
  | 70 => ⟨S_, .i32⟩
  | 71 => ⟨S_, .i32⟩
  | 72 => ⟨S_, .i32⟩
  | 73 => ⟨S_, .i32⟩
  | 74 => ⟨S_, .f32⟩
  | 75 => ⟨S16384, .f32⟩
  | 76 => ⟨S_, .f32⟩
  | 77 => ⟨S_, .f32⟩
  | 78 => ⟨S16384, .f32⟩
  | 79 => ⟨S16384, .f32⟩
  | 80 => ⟨S_, .f32⟩
  | 81 => ⟨S_, .f32⟩
  | 82 => ⟨S_, .f32⟩
  | 83 => ⟨S_, .f32⟩
  | 84 => ⟨S_, .f32⟩
  | 85 => ⟨S16384, .f32⟩
  | 86 => ⟨S16384, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1, .f32⟩
  | 94 => ⟨S1, .f32⟩
  | 95 => ⟨S1, .f32⟩
  | 96 => ⟨S_, .f32⟩
  | 97 => ⟨S16384, .f32⟩
  | 98 => ⟨S16384, .i1⟩
  | 99 => ⟨S1, .f32⟩
  | 100 => ⟨S_, .f32⟩
  | 101 => ⟨S16384, .f32⟩
  | 102 => ⟨S16384, .i1⟩
  | 103 => ⟨S16384, .i1⟩
  | 104 => ⟨S16384, .f32⟩
  | 105 => ⟨S_, .f32⟩
  | 106 => ⟨S_, .f32⟩
  | 107 => ⟨S_, .f32⟩
  | 108 => ⟨S_, .f32⟩
  | 109 => ⟨S16384, .i32⟩
  | 110 => ⟨S_, .i32⟩
  | 111 => ⟨S_, .i32⟩
  | 112 => ⟨S_, .i32⟩
  | 113 => ⟨S_, .i32⟩
  | 114 => ⟨S_, .f32⟩
  | 115 => ⟨S16384, .f32⟩
  | 116 => ⟨S_, .f32⟩
  | 117 => ⟨S_, .f32⟩
  | 118 => ⟨S16384, .f32⟩
  | 119 => ⟨S16384, .f32⟩
  | 120 => ⟨S_, .f32⟩
  | 121 => ⟨S_, .f32⟩
  | 122 => ⟨S_, .f32⟩
  | 123 => ⟨S_, .f32⟩
  | 124 => ⟨S_, .f32⟩
  | 125 => ⟨S16384, .f32⟩
  | 126 => ⟨S16384, .f32⟩
  | 127 => ⟨S_, .f32⟩
  | _ => ⟨S16384x1000, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1, .f32⟩
  | 6 => ⟨S1, .f32⟩
  | 7 => ⟨S1, .f32⟩
  | 8 => ⟨S_, .f32⟩
  | 9 => ⟨S16384, .f32⟩
  | 10 => ⟨S16384, .i1⟩
  | 11 => ⟨S1, .f32⟩
  | 12 => ⟨S_, .f32⟩
  | 13 => ⟨S16384, .f32⟩
  | 14 => ⟨S16384, .i1⟩
  | 15 => ⟨S16384, .i1⟩
  | 16 => ⟨S16384, .f32⟩
  | 17 => ⟨S_, .f32⟩
  | 18 => ⟨S_, .f32⟩
  | 19 => ⟨S_, .f32⟩
  | 20 => ⟨S_, .f32⟩
  | 21 => ⟨S16384, .i32⟩
  | 22 => ⟨S_, .i32⟩
  | 23 => ⟨S_, .i32⟩
  | 24 => ⟨S_, .i32⟩
  | 25 => ⟨S_, .i32⟩
  | 26 => ⟨S_, .f32⟩
  | 27 => ⟨S16384, .f32⟩
  | 28 => ⟨S_, .f32⟩
  | 29 => ⟨S_, .f32⟩
  | 30 => ⟨S16384, .f32⟩
  | 31 => ⟨S16384, .f32⟩
  | 32 => ⟨S_, .f32⟩
  | 33 => ⟨S_, .f32⟩
  | 34 => ⟨S_, .f32⟩
  | 35 => ⟨S_, .f32⟩
  | 36 => ⟨S_, .f32⟩
  | 37 => ⟨S16384, .f32⟩
  | 38 => ⟨S16384, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S1, .f32⟩
  | 46 => ⟨S1, .f32⟩
  | 47 => ⟨S1, .f32⟩
  | 48 => ⟨S_, .f32⟩
  | 49 => ⟨S16384, .f32⟩
  | 50 => ⟨S16384, .i1⟩
  | 51 => ⟨S1, .f32⟩
  | 52 => ⟨S_, .f32⟩
  | 53 => ⟨S16384, .f32⟩
  | 54 => ⟨S16384, .i1⟩
  | 55 => ⟨S16384, .i1⟩
  | 56 => ⟨S16384, .f32⟩
  | 57 => ⟨S_, .f32⟩
  | 58 => ⟨S_, .f32⟩
  | 59 => ⟨S_, .f32⟩
  | 60 => ⟨S_, .f32⟩
  | 61 => ⟨S16384, .i32⟩
  | 62 => ⟨S_, .i32⟩
  | 63 => ⟨S_, .i32⟩
  | 64 => ⟨S_, .i32⟩
  | 65 => ⟨S_, .i32⟩
  | 66 => ⟨S_, .f32⟩
  | 67 => ⟨S16384, .f32⟩
  | 68 => ⟨S_, .f32⟩
  | 69 => ⟨S_, .f32⟩
  | 70 => ⟨S16384, .f32⟩
  | 71 => ⟨S16384, .f32⟩
  | 72 => ⟨S_, .f32⟩
  | 73 => ⟨S_, .f32⟩
  | 74 => ⟨S_, .f32⟩
  | 75 => ⟨S_, .f32⟩
  | 76 => ⟨S_, .f32⟩
  | 77 => ⟨S16384, .f32⟩
  | 78 => ⟨S16384, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1, .f32⟩
  | 86 => ⟨S1, .f32⟩
  | 87 => ⟨S1, .f32⟩
  | 88 => ⟨S_, .f32⟩
  | 89 => ⟨S16384, .f32⟩
  | 90 => ⟨S16384, .i1⟩
  | 91 => ⟨S1, .f32⟩
  | 92 => ⟨S_, .f32⟩
  | 93 => ⟨S16384, .f32⟩
  | 94 => ⟨S16384, .i1⟩
  | 95 => ⟨S16384, .i1⟩
  | 96 => ⟨S16384, .f32⟩
  | 97 => ⟨S_, .f32⟩
  | 98 => ⟨S_, .f32⟩
  | 99 => ⟨S_, .f32⟩
  | 100 => ⟨S_, .f32⟩
  | 101 => ⟨S16384, .i32⟩
  | 102 => ⟨S_, .i32⟩
  | 103 => ⟨S_, .i32⟩
  | 104 => ⟨S_, .i32⟩
  | 105 => ⟨S_, .i32⟩
  | 106 => ⟨S_, .f32⟩
  | 107 => ⟨S16384, .f32⟩
  | 108 => ⟨S_, .f32⟩
  | 109 => ⟨S_, .f32⟩
  | 110 => ⟨S16384, .f32⟩
  | 111 => ⟨S16384, .f32⟩
  | 112 => ⟨S_, .f32⟩
  | 113 => ⟨S_, .f32⟩
  | 114 => ⟨S_, .f32⟩
  | 115 => ⟨S_, .f32⟩
  | 116 => ⟨S_, .f32⟩
  | 117 => ⟨S16384, .f32⟩
  | 118 => ⟨S16384, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S1, .f32⟩
  | 126 => ⟨S1, .f32⟩
  | 127 => ⟨S1, .f32⟩
  | _ => ⟨S16384x1000, .f32⟩

abbrev hbmTy0_2 (i : Nat) : BufTy := match i % 128 with
  | 0 => ⟨S_, .f32⟩
  | 1 => ⟨S16384, .f32⟩
  | 2 => ⟨S16384, .i1⟩
  | 3 => ⟨S1, .f32⟩
  | 4 => ⟨S_, .f32⟩
  | 5 => ⟨S16384, .f32⟩
  | 6 => ⟨S16384, .i1⟩
  | 7 => ⟨S16384, .i1⟩
  | 8 => ⟨S16384, .f32⟩
  | 9 => ⟨S_, .f32⟩
  | 10 => ⟨S_, .f32⟩
  | 11 => ⟨S_, .f32⟩
  | 12 => ⟨S_, .f32⟩
  | 13 => ⟨S16384, .i32⟩
  | 14 => ⟨S_, .i32⟩
  | 15 => ⟨S_, .i32⟩
  | 16 => ⟨S_, .i32⟩
  | 17 => ⟨S_, .i32⟩
  | 18 => ⟨S_, .f32⟩
  | 19 => ⟨S16384, .f32⟩
  | 20 => ⟨S_, .f32⟩
  | 21 => ⟨S_, .f32⟩
  | 22 => ⟨S16384, .f32⟩
  | 23 => ⟨S16384, .f32⟩
  | 24 => ⟨S_, .f32⟩
  | 25 => ⟨S_, .f32⟩
  | 26 => ⟨S_, .f32⟩
  | 27 => ⟨S_, .f32⟩
  | 28 => ⟨S_, .f32⟩
  | 29 => ⟨S16384, .f32⟩
  | 30 => ⟨S16384, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1, .f32⟩
  | 38 => ⟨S1, .f32⟩
  | 39 => ⟨S1, .f32⟩
  | 40 => ⟨S_, .f32⟩
  | 41 => ⟨S16384, .f32⟩
  | 42 => ⟨S16384, .i1⟩
  | 43 => ⟨S1, .f32⟩
  | 44 => ⟨S_, .f32⟩
  | 45 => ⟨S16384, .f32⟩
  | 46 => ⟨S16384, .i1⟩
  | 47 => ⟨S16384, .i1⟩
  | 48 => ⟨S16384, .f32⟩
  | 49 => ⟨S_, .f32⟩
  | 50 => ⟨S_, .f32⟩
  | 51 => ⟨S_, .f32⟩
  | 52 => ⟨S_, .f32⟩
  | 53 => ⟨S16384, .i32⟩
  | 54 => ⟨S_, .i32⟩
  | 55 => ⟨S_, .i32⟩
  | 56 => ⟨S_, .i32⟩
  | 57 => ⟨S_, .i32⟩
  | 58 => ⟨S_, .f32⟩
  | 59 => ⟨S16384, .f32⟩
  | 60 => ⟨S_, .f32⟩
  | 61 => ⟨S_, .f32⟩
  | 62 => ⟨S16384, .f32⟩
  | 63 => ⟨S16384, .f32⟩
  | 64 => ⟨S_, .f32⟩
  | 65 => ⟨S_, .f32⟩
  | 66 => ⟨S_, .f32⟩
  | 67 => ⟨S_, .f32⟩
  | 68 => ⟨S_, .f32⟩
  | 69 => ⟨S16384, .f32⟩
  | 70 => ⟨S16384, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1, .f32⟩
  | 78 => ⟨S1, .f32⟩
  | 79 => ⟨S1, .f32⟩
  | 80 => ⟨S_, .f32⟩
  | 81 => ⟨S16384, .f32⟩
  | 82 => ⟨S16384, .i1⟩
  | 83 => ⟨S1, .f32⟩
  | 84 => ⟨S_, .f32⟩
  | 85 => ⟨S16384, .f32⟩
  | 86 => ⟨S16384, .i1⟩
  | 87 => ⟨S16384, .i1⟩
  | 88 => ⟨S16384, .f32⟩
  | 89 => ⟨S_, .f32⟩
  | 90 => ⟨S_, .f32⟩
  | 91 => ⟨S_, .f32⟩
  | 92 => ⟨S_, .f32⟩
  | 93 => ⟨S16384, .i32⟩
  | 94 => ⟨S_, .i32⟩
  | 95 => ⟨S_, .i32⟩
  | 96 => ⟨S_, .i32⟩
  | 97 => ⟨S_, .i32⟩
  | 98 => ⟨S_, .f32⟩
  | 99 => ⟨S16384, .f32⟩
  | 100 => ⟨S_, .f32⟩
  | 101 => ⟨S_, .f32⟩
  | 102 => ⟨S16384, .f32⟩
  | 103 => ⟨S16384, .f32⟩
  | 104 => ⟨S_, .f32⟩
  | 105 => ⟨S_, .f32⟩
  | 106 => ⟨S_, .f32⟩
  | 107 => ⟨S_, .f32⟩
  | 108 => ⟨S_, .f32⟩
  | 109 => ⟨S16384, .f32⟩
  | 110 => ⟨S16384, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S1, .f32⟩
  | 118 => ⟨S1, .f32⟩
  | 119 => ⟨S1, .f32⟩
  | 120 => ⟨S_, .f32⟩
  | 121 => ⟨S16384, .f32⟩
  | 122 => ⟨S16384, .i1⟩
  | 123 => ⟨S1, .f32⟩
  | 124 => ⟨S_, .f32⟩
  | 125 => ⟨S16384, .f32⟩
  | 126 => ⟨S16384, .i1⟩
  | 127 => ⟨S16384, .i1⟩
  | _ => ⟨S16384x1000, .f32⟩

abbrev hbmTy0_3 (i : Nat) : BufTy := match i % 128 with
  | 0 => ⟨S16384, .f32⟩
  | 1 => ⟨S_, .f32⟩
  | 2 => ⟨S_, .f32⟩
  | 3 => ⟨S_, .f32⟩
  | 4 => ⟨S_, .f32⟩
  | 5 => ⟨S16384, .i32⟩
  | 6 => ⟨S_, .i32⟩
  | 7 => ⟨S_, .i32⟩
  | 8 => ⟨S_, .i32⟩
  | 9 => ⟨S_, .i32⟩
  | 10 => ⟨S_, .f32⟩
  | 11 => ⟨S16384, .f32⟩
  | 12 => ⟨S_, .f32⟩
  | 13 => ⟨S_, .f32⟩
  | 14 => ⟨S16384, .f32⟩
  | 15 => ⟨S16384, .f32⟩
  | 16 => ⟨S_, .f32⟩
  | 17 => ⟨S_, .f32⟩
  | 18 => ⟨S_, .f32⟩
  | 19 => ⟨S_, .f32⟩
  | 20 => ⟨S_, .f32⟩
  | 21 => ⟨S16384, .f32⟩
  | 22 => ⟨S16384, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1, .f32⟩
  | 30 => ⟨S1, .f32⟩
  | 31 => ⟨S1, .f32⟩
  | 32 => ⟨S_, .f32⟩
  | 33 => ⟨S16384, .f32⟩
  | 34 => ⟨S16384, .i1⟩
  | 35 => ⟨S1, .f32⟩
  | 36 => ⟨S_, .f32⟩
  | 37 => ⟨S16384, .f32⟩
  | 38 => ⟨S16384, .i1⟩
  | 39 => ⟨S16384, .i1⟩
  | 40 => ⟨S16384, .f32⟩
  | 41 => ⟨S_, .f32⟩
  | 42 => ⟨S_, .f32⟩
  | 43 => ⟨S_, .f32⟩
  | 44 => ⟨S_, .f32⟩
  | 45 => ⟨S16384, .i32⟩
  | 46 => ⟨S_, .i32⟩
  | 47 => ⟨S_, .i32⟩
  | 48 => ⟨S_, .i32⟩
  | 49 => ⟨S_, .i32⟩
  | 50 => ⟨S_, .f32⟩
  | 51 => ⟨S16384, .f32⟩
  | 52 => ⟨S_, .f32⟩
  | 53 => ⟨S_, .f32⟩
  | 54 => ⟨S16384, .f32⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S16384, .f32⟩
  | 62 => ⟨S16384, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1, .f32⟩
  | 70 => ⟨S1, .f32⟩
  | 71 => ⟨S1, .f32⟩
  | 72 => ⟨S_, .f32⟩
  | 73 => ⟨S16384, .f32⟩
  | 74 => ⟨S16384, .i1⟩
  | 75 => ⟨S1, .f32⟩
  | 76 => ⟨S_, .f32⟩
  | 77 => ⟨S16384, .f32⟩
  | 78 => ⟨S16384, .i1⟩
  | 79 => ⟨S16384, .i1⟩
  | 80 => ⟨S16384, .f32⟩
  | 81 => ⟨S_, .f32⟩
  | 82 => ⟨S_, .f32⟩
  | 83 => ⟨S_, .f32⟩
  | 84 => ⟨S_, .f32⟩
  | 85 => ⟨S16384, .i32⟩
  | 86 => ⟨S_, .i32⟩
  | 87 => ⟨S_, .i32⟩
  | 88 => ⟨S_, .i32⟩
  | 89 => ⟨S_, .i32⟩
  | 90 => ⟨S_, .f32⟩
  | 91 => ⟨S16384, .f32⟩
  | 92 => ⟨S_, .f32⟩
  | 93 => ⟨S_, .f32⟩
  | 94 => ⟨S16384, .f32⟩
  | 95 => ⟨S16384, .f32⟩
  | 96 => ⟨S_, .f32⟩
  | 97 => ⟨S_, .f32⟩
  | 98 => ⟨S_, .f32⟩
  | 99 => ⟨S_, .f32⟩
  | 100 => ⟨S_, .f32⟩
  | 101 => ⟨S16384, .f32⟩
  | 102 => ⟨S16384, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S1, .f32⟩
  | 110 => ⟨S1, .f32⟩
  | 111 => ⟨S1, .f32⟩
  | 112 => ⟨S_, .f32⟩
  | 113 => ⟨S16384, .f32⟩
  | 114 => ⟨S16384, .i1⟩
  | 115 => ⟨S1, .f32⟩
  | 116 => ⟨S_, .f32⟩
  | 117 => ⟨S16384, .f32⟩
  | 118 => ⟨S16384, .i1⟩
  | 119 => ⟨S16384, .i1⟩
  | 120 => ⟨S16384, .f32⟩
  | 121 => ⟨S_, .f32⟩
  | 122 => ⟨S_, .f32⟩
  | 123 => ⟨S_, .f32⟩
  | 124 => ⟨S_, .f32⟩
  | 125 => ⟨S16384, .i32⟩
  | 126 => ⟨S_, .i32⟩
  | 127 => ⟨S_, .i32⟩
  | _ => ⟨S16384x1000, .f32⟩

abbrev hbmTy0_4 (i : Nat) : BufTy := match i % 128 with
  | 0 => ⟨S_, .i32⟩
  | 1 => ⟨S_, .i32⟩
  | 2 => ⟨S_, .f32⟩
  | 3 => ⟨S16384, .f32⟩
  | 4 => ⟨S_, .f32⟩
  | 5 => ⟨S_, .f32⟩
  | 6 => ⟨S16384, .f32⟩
  | 7 => ⟨S16384, .f32⟩
  | 8 => ⟨S_, .f32⟩
  | 9 => ⟨S_, .f32⟩
  | 10 => ⟨S_, .f32⟩
  | 11 => ⟨S_, .f32⟩
  | 12 => ⟨S_, .f32⟩
  | 13 => ⟨S16384, .f32⟩
  | 14 => ⟨S16384, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1, .f32⟩
  | 22 => ⟨S1, .f32⟩
  | 23 => ⟨S1, .f32⟩
  | 24 => ⟨S_, .f32⟩
  | 25 => ⟨S16384, .f32⟩
  | 26 => ⟨S16384, .i1⟩
  | 27 => ⟨S1, .f32⟩
  | 28 => ⟨S_, .f32⟩
  | 29 => ⟨S16384, .f32⟩
  | 30 => ⟨S16384, .i1⟩
  | 31 => ⟨S16384, .i1⟩
  | 32 => ⟨S16384, .f32⟩
  | 33 => ⟨S_, .f32⟩
  | 34 => ⟨S_, .f32⟩
  | 35 => ⟨S_, .f32⟩
  | 36 => ⟨S_, .f32⟩
  | 37 => ⟨S16384, .i32⟩
  | 38 => ⟨S_, .i32⟩
  | 39 => ⟨S_, .i32⟩
  | 40 => ⟨S_, .i32⟩
  | 41 => ⟨S_, .i32⟩
  | 42 => ⟨S_, .f32⟩
  | 43 => ⟨S16384, .f32⟩
  | 44 => ⟨S_, .f32⟩
  | 45 => ⟨S_, .f32⟩
  | 46 => ⟨S16384, .f32⟩
  | 47 => ⟨S16384, .f32⟩
  | 48 => ⟨S_, .f32⟩
  | 49 => ⟨S_, .f32⟩
  | 50 => ⟨S_, .f32⟩
  | 51 => ⟨S_, .f32⟩
  | 52 => ⟨S_, .f32⟩
  | 53 => ⟨S16384, .f32⟩
  | 54 => ⟨S16384, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S1, .f32⟩
  | 62 => ⟨S1, .f32⟩
  | 63 => ⟨S1, .f32⟩
  | 64 => ⟨S_, .f32⟩
  | 65 => ⟨S16384, .f32⟩
  | 66 => ⟨S16384, .i1⟩
  | 67 => ⟨S1, .f32⟩
  | 68 => ⟨S_, .f32⟩
  | 69 => ⟨S16384, .f32⟩
  | 70 => ⟨S16384, .i1⟩
  | 71 => ⟨S16384, .i1⟩
  | 72 => ⟨S16384, .f32⟩
  | 73 => ⟨S_, .f32⟩
  | 74 => ⟨S_, .f32⟩
  | 75 => ⟨S_, .f32⟩
  | 76 => ⟨S_, .f32⟩
  | 77 => ⟨S16384, .i32⟩
  | 78 => ⟨S_, .i32⟩
  | 79 => ⟨S_, .i32⟩
  | 80 => ⟨S_, .i32⟩
  | 81 => ⟨S_, .i32⟩
  | 82 => ⟨S_, .f32⟩
  | 83 => ⟨S16384, .f32⟩
  | 84 => ⟨S_, .f32⟩
  | 85 => ⟨S_, .f32⟩
  | 86 => ⟨S16384, .f32⟩
  | 87 => ⟨S16384, .f32⟩
  | 88 => ⟨S_, .f32⟩
  | 89 => ⟨S_, .f32⟩
  | 90 => ⟨S_, .f32⟩
  | 91 => ⟨S_, .f32⟩
  | 92 => ⟨S_, .f32⟩
  | 93 => ⟨S16384, .f32⟩
  | 94 => ⟨S16384, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1, .f32⟩
  | 102 => ⟨S1, .f32⟩
  | 103 => ⟨S1, .f32⟩
  | 104 => ⟨S_, .f32⟩
  | 105 => ⟨S16384, .f32⟩
  | 106 => ⟨S16384, .i1⟩
  | 107 => ⟨S1, .f32⟩
  | 108 => ⟨S_, .f32⟩
  | 109 => ⟨S16384, .f32⟩
  | 110 => ⟨S16384, .i1⟩
  | 111 => ⟨S16384, .i1⟩
  | 112 => ⟨S16384, .f32⟩
  | 113 => ⟨S_, .f32⟩
  | 114 => ⟨S_, .f32⟩
  | 115 => ⟨S_, .f32⟩
  | 116 => ⟨S_, .f32⟩
  | 117 => ⟨S16384, .i32⟩
  | 118 => ⟨S_, .i32⟩
  | 119 => ⟨S_, .i32⟩
  | 120 => ⟨S_, .i32⟩
  | 121 => ⟨S_, .i32⟩
  | 122 => ⟨S_, .f32⟩
  | 123 => ⟨S16384, .f32⟩
  | 124 => ⟨S_, .f32⟩
  | 125 => ⟨S_, .f32⟩
  | 126 => ⟨S16384, .f32⟩
  | 127 => ⟨S16384, .f32⟩
  | _ => ⟨S16384x1000, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16384, .f32⟩
  | 6 => ⟨S16384, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S1, .f32⟩
  | _ => ⟨S16384x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_2 : Ref sig .tc := ⟨.hbm, 31, rfl⟩
abbrev main_v6 : Ref sig .tc := ⟨.hbm, 32, rfl⟩
abbrev main_cst_3 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_4 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v18 : Ref sig .tc := ⟨.hbm, 51, rfl⟩
abbrev main_v19 : Ref sig .tc := ⟨.hbm, 52, rfl⟩
abbrev main_cst_6 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_7 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_c : Ref sig .tc := ⟨.hbm, 70, rfl⟩
abbrev main_v34 : Ref sig .tc := ⟨.hbm, 71, rfl⟩
abbrev main_c_9 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_10 : Ref sig .tc := ⟨.hbm, 76, rfl⟩
abbrev main_call3_v0 : Ref sig .tc := ⟨.hbm, 77, rfl⟩
abbrev main_call3_v1 : Ref sig .tc := ⟨.hbm, 78, rfl⟩
abbrev main_v38 : Ref sig .tc := ⟨.hbm, 79, rfl⟩
abbrev main_cst_11 : Ref sig .tc := ⟨.hbm, 80, rfl⟩
abbrev main_v39 : Ref sig .tc := ⟨.hbm, 81, rfl⟩
abbrev main_v40 : Ref sig .tc := ⟨.hbm, 82, rfl⟩
abbrev main_cst_12 : Ref sig .tc := ⟨.hbm, 83, rfl⟩
abbrev main_call4_v0 : Ref sig .tc := ⟨.hbm, 84, rfl⟩
abbrev main_call4_v1 : Ref sig .tc := ⟨.hbm, 85, rfl⟩
abbrev main_v41 : Ref sig .tc := ⟨.hbm, 86, rfl⟩
abbrev main_cst_13 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_cst_15 : Ref sig .tc := ⟨.hbm, 107, rfl⟩
abbrev main_v60 : Ref sig .tc := ⟨.hbm, 108, rfl⟩
abbrev main_v61 : Ref sig .tc := ⟨.hbm, 109, rfl⟩
abbrev main_c_16 : Ref sig .tc := ⟨.hbm, 110, rfl⟩
abbrev main_v62 : Ref sig .tc := ⟨.hbm, 111, rfl⟩
abbrev main_c_17 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_18 : Ref sig .tc := ⟨.hbm, 116, rfl⟩
abbrev main_call5_v0 : Ref sig .tc := ⟨.hbm, 117, rfl⟩
abbrev main_call5_v1 : Ref sig .tc := ⟨.hbm, 118, rfl⟩
abbrev main_v66 : Ref sig .tc := ⟨.hbm, 119, rfl⟩
abbrev main_cst_19 : Ref sig .tc := ⟨.hbm, 120, rfl⟩
abbrev main_v67 : Ref sig .tc := ⟨.hbm, 121, rfl⟩
abbrev main_v68 : Ref sig .tc := ⟨.hbm, 122, rfl⟩
abbrev main_cst_20 : Ref sig .tc := ⟨.hbm, 123, rfl⟩
abbrev main_call6_v0 : Ref sig .tc := ⟨.hbm, 124, rfl⟩
abbrev main_call6_v1 : Ref sig .tc := ⟨.hbm, 125, rfl⟩
abbrev main_v69 : Ref sig .tc := ⟨.hbm, 126, rfl⟩
abbrev main_cst_21 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_22 : Ref sig .tc := ⟨.hbm, 145, rfl⟩
abbrev main_v87 : Ref sig .tc := ⟨.hbm, 146, rfl⟩
abbrev main_cst_23 : Ref sig .tc := ⟨.hbm, 147, rfl⟩
abbrev main_v88 : Ref sig .tc := ⟨.hbm, 148, rfl⟩
abbrev main_v89 : Ref sig .tc := ⟨.hbm, 149, rfl⟩
abbrev main_c_24 : Ref sig .tc := ⟨.hbm, 150, rfl⟩
abbrev main_v90 : Ref sig .tc := ⟨.hbm, 151, rfl⟩
abbrev main_c_25 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_26 : Ref sig .tc := ⟨.hbm, 156, rfl⟩
abbrev main_call7_v0 : Ref sig .tc := ⟨.hbm, 157, rfl⟩
abbrev main_call7_v1 : Ref sig .tc := ⟨.hbm, 158, rfl⟩
abbrev main_v94 : Ref sig .tc := ⟨.hbm, 159, rfl⟩
abbrev main_cst_27 : Ref sig .tc := ⟨.hbm, 160, rfl⟩
abbrev main_v95 : Ref sig .tc := ⟨.hbm, 161, rfl⟩
abbrev main_v96 : Ref sig .tc := ⟨.hbm, 162, rfl⟩
abbrev main_cst_28 : Ref sig .tc := ⟨.hbm, 163, rfl⟩
abbrev main_call8_v0 : Ref sig .tc := ⟨.hbm, 164, rfl⟩
abbrev main_call8_v1 : Ref sig .tc := ⟨.hbm, 165, rfl⟩
abbrev main_v97 : Ref sig .tc := ⟨.hbm, 166, rfl⟩
abbrev main_cst_29 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_30 : Ref sig .tc := ⟨.hbm, 185, rfl⟩
abbrev main_v115 : Ref sig .tc := ⟨.hbm, 186, rfl⟩
abbrev main_cst_31 : Ref sig .tc := ⟨.hbm, 187, rfl⟩
abbrev main_v116 : Ref sig .tc := ⟨.hbm, 188, rfl⟩
abbrev main_v117 : Ref sig .tc := ⟨.hbm, 189, rfl⟩
abbrev main_c_32 : Ref sig .tc := ⟨.hbm, 190, rfl⟩
abbrev main_v118 : Ref sig .tc := ⟨.hbm, 191, rfl⟩
abbrev main_c_33 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_34 : Ref sig .tc := ⟨.hbm, 196, rfl⟩
abbrev main_call9_v0 : Ref sig .tc := ⟨.hbm, 197, rfl⟩
abbrev main_call9_v1 : Ref sig .tc := ⟨.hbm, 198, rfl⟩
abbrev main_v122 : Ref sig .tc := ⟨.hbm, 199, rfl⟩
abbrev main_cst_35 : Ref sig .tc := ⟨.hbm, 200, rfl⟩
abbrev main_v123 : Ref sig .tc := ⟨.hbm, 201, rfl⟩
abbrev main_v124 : Ref sig .tc := ⟨.hbm, 202, rfl⟩
abbrev main_cst_36 : Ref sig .tc := ⟨.hbm, 203, rfl⟩
abbrev main_call10_v0 : Ref sig .tc := ⟨.hbm, 204, rfl⟩
abbrev main_call10_v1 : Ref sig .tc := ⟨.hbm, 205, rfl⟩
abbrev main_v125 : Ref sig .tc := ⟨.hbm, 206, rfl⟩
abbrev main_cst_37 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_38 : Ref sig .tc := ⟨.hbm, 225, rfl⟩
abbrev main_v143 : Ref sig .tc := ⟨.hbm, 226, rfl⟩
abbrev main_cst_39 : Ref sig .tc := ⟨.hbm, 227, rfl⟩
abbrev main_v144 : Ref sig .tc := ⟨.hbm, 228, rfl⟩
abbrev main_v145 : Ref sig .tc := ⟨.hbm, 229, rfl⟩
abbrev main_c_40 : Ref sig .tc := ⟨.hbm, 230, rfl⟩
abbrev main_v146 : Ref sig .tc := ⟨.hbm, 231, rfl⟩
abbrev main_c_41 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_cst_42 : Ref sig .tc := ⟨.hbm, 236, rfl⟩
abbrev main_call11_v0 : Ref sig .tc := ⟨.hbm, 237, rfl⟩
abbrev main_call11_v1 : Ref sig .tc := ⟨.hbm, 238, rfl⟩
abbrev main_v150 : Ref sig .tc := ⟨.hbm, 239, rfl⟩
abbrev main_cst_43 : Ref sig .tc := ⟨.hbm, 240, rfl⟩
abbrev main_v151 : Ref sig .tc := ⟨.hbm, 241, rfl⟩
abbrev main_v152 : Ref sig .tc := ⟨.hbm, 242, rfl⟩
abbrev main_cst_44 : Ref sig .tc := ⟨.hbm, 243, rfl⟩
abbrev main_call12_v0 : Ref sig .tc := ⟨.hbm, 244, rfl⟩
abbrev main_call12_v1 : Ref sig .tc := ⟨.hbm, 245, rfl⟩
abbrev main_v153 : Ref sig .tc := ⟨.hbm, 246, rfl⟩
abbrev main_cst_45 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_cst_46 : Ref sig .tc := ⟨.hbm, 265, rfl⟩
abbrev main_v171 : Ref sig .tc := ⟨.hbm, 266, rfl⟩
abbrev main_cst_47 : Ref sig .tc := ⟨.hbm, 267, rfl⟩
abbrev main_v172 : Ref sig .tc := ⟨.hbm, 268, rfl⟩
abbrev main_v173 : Ref sig .tc := ⟨.hbm, 269, rfl⟩
abbrev main_c_48 : Ref sig .tc := ⟨.hbm, 270, rfl⟩
abbrev main_v174 : Ref sig .tc := ⟨.hbm, 271, rfl⟩
abbrev main_c_49 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_50 : Ref sig .tc := ⟨.hbm, 276, rfl⟩
abbrev main_call13_v0 : Ref sig .tc := ⟨.hbm, 277, rfl⟩
abbrev main_call13_v1 : Ref sig .tc := ⟨.hbm, 278, rfl⟩
abbrev main_v178 : Ref sig .tc := ⟨.hbm, 279, rfl⟩
abbrev main_cst_51 : Ref sig .tc := ⟨.hbm, 280, rfl⟩
abbrev main_v179 : Ref sig .tc := ⟨.hbm, 281, rfl⟩
abbrev main_v180 : Ref sig .tc := ⟨.hbm, 282, rfl⟩
abbrev main_cst_52 : Ref sig .tc := ⟨.hbm, 283, rfl⟩
abbrev main_call14_v0 : Ref sig .tc := ⟨.hbm, 284, rfl⟩
abbrev main_call14_v1 : Ref sig .tc := ⟨.hbm, 285, rfl⟩
abbrev main_v181 : Ref sig .tc := ⟨.hbm, 286, rfl⟩
abbrev main_cst_53 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_cst_54 : Ref sig .tc := ⟨.hbm, 305, rfl⟩
abbrev main_v199 : Ref sig .tc := ⟨.hbm, 306, rfl⟩
abbrev main_cst_55 : Ref sig .tc := ⟨.hbm, 307, rfl⟩
abbrev main_v200 : Ref sig .tc := ⟨.hbm, 308, rfl⟩
abbrev main_v201 : Ref sig .tc := ⟨.hbm, 309, rfl⟩
abbrev main_c_56 : Ref sig .tc := ⟨.hbm, 310, rfl⟩
abbrev main_v202 : Ref sig .tc := ⟨.hbm, 311, rfl⟩
abbrev main_c_57 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_cst_58 : Ref sig .tc := ⟨.hbm, 316, rfl⟩
abbrev main_call15_v0 : Ref sig .tc := ⟨.hbm, 317, rfl⟩
abbrev main_call15_v1 : Ref sig .tc := ⟨.hbm, 318, rfl⟩
abbrev main_v206 : Ref sig .tc := ⟨.hbm, 319, rfl⟩
abbrev main_cst_59 : Ref sig .tc := ⟨.hbm, 320, rfl⟩
abbrev main_v207 : Ref sig .tc := ⟨.hbm, 321, rfl⟩
abbrev main_v208 : Ref sig .tc := ⟨.hbm, 322, rfl⟩
abbrev main_cst_60 : Ref sig .tc := ⟨.hbm, 323, rfl⟩
abbrev main_call16_v0 : Ref sig .tc := ⟨.hbm, 324, rfl⟩
abbrev main_call16_v1 : Ref sig .tc := ⟨.hbm, 325, rfl⟩
abbrev main_v209 : Ref sig .tc := ⟨.hbm, 326, rfl⟩
abbrev main_cst_61 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_cst_62 : Ref sig .tc := ⟨.hbm, 345, rfl⟩
abbrev main_v227 : Ref sig .tc := ⟨.hbm, 346, rfl⟩
abbrev main_cst_63 : Ref sig .tc := ⟨.hbm, 347, rfl⟩
abbrev main_v228 : Ref sig .tc := ⟨.hbm, 348, rfl⟩
abbrev main_v229 : Ref sig .tc := ⟨.hbm, 349, rfl⟩
abbrev main_c_64 : Ref sig .tc := ⟨.hbm, 350, rfl⟩
abbrev main_v230 : Ref sig .tc := ⟨.hbm, 351, rfl⟩
abbrev main_c_65 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_cst_66 : Ref sig .tc := ⟨.hbm, 356, rfl⟩
abbrev main_call17_v0 : Ref sig .tc := ⟨.hbm, 357, rfl⟩
abbrev main_call17_v1 : Ref sig .tc := ⟨.hbm, 358, rfl⟩
abbrev main_v234 : Ref sig .tc := ⟨.hbm, 359, rfl⟩
abbrev main_cst_67 : Ref sig .tc := ⟨.hbm, 360, rfl⟩
abbrev main_v235 : Ref sig .tc := ⟨.hbm, 361, rfl⟩
abbrev main_v236 : Ref sig .tc := ⟨.hbm, 362, rfl⟩
abbrev main_cst_68 : Ref sig .tc := ⟨.hbm, 363, rfl⟩
abbrev main_call18_v0 : Ref sig .tc := ⟨.hbm, 364, rfl⟩
abbrev main_call18_v1 : Ref sig .tc := ⟨.hbm, 365, rfl⟩
abbrev main_v237 : Ref sig .tc := ⟨.hbm, 366, rfl⟩
abbrev main_cst_69 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_v254 : Ref sig .tc := ⟨.hbm, 384, rfl⟩
abbrev main_cst_70 : Ref sig .tc := ⟨.hbm, 385, rfl⟩
abbrev main_v255 : Ref sig .tc := ⟨.hbm, 386, rfl⟩
abbrev main_cst_71 : Ref sig .tc := ⟨.hbm, 387, rfl⟩
abbrev main_v256 : Ref sig .tc := ⟨.hbm, 388, rfl⟩
abbrev main_v257 : Ref sig .tc := ⟨.hbm, 389, rfl⟩
abbrev main_c_72 : Ref sig .tc := ⟨.hbm, 390, rfl⟩
abbrev main_v258 : Ref sig .tc := ⟨.hbm, 391, rfl⟩
abbrev main_c_73 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_cst_74 : Ref sig .tc := ⟨.hbm, 396, rfl⟩
abbrev main_call19_v0 : Ref sig .tc := ⟨.hbm, 397, rfl⟩
abbrev main_call19_v1 : Ref sig .tc := ⟨.hbm, 398, rfl⟩
abbrev main_v262 : Ref sig .tc := ⟨.hbm, 399, rfl⟩
abbrev main_cst_75 : Ref sig .tc := ⟨.hbm, 400, rfl⟩
abbrev main_v263 : Ref sig .tc := ⟨.hbm, 401, rfl⟩
abbrev main_v264 : Ref sig .tc := ⟨.hbm, 402, rfl⟩
abbrev main_cst_76 : Ref sig .tc := ⟨.hbm, 403, rfl⟩
abbrev main_call20_v0 : Ref sig .tc := ⟨.hbm, 404, rfl⟩
abbrev main_call20_v1 : Ref sig .tc := ⟨.hbm, 405, rfl⟩
abbrev main_v265 : Ref sig .tc := ⟨.hbm, 406, rfl⟩
abbrev main_cst_77 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_v271 : Ref sig .tc := ⟨.hbm, 413, rfl⟩
abbrev main_v272 : Ref sig .tc := ⟨.hbm, 414, rfl⟩
abbrev main_v273 : Ref sig .tc := ⟨.hbm, 415, rfl⟩
abbrev main_v274 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_v281 : Ref sig .tc := ⟨.hbm, 423, rfl⟩
abbrev main_v282 : Ref sig .tc := ⟨.hbm, 424, rfl⟩
abbrev main_cst_78 : Ref sig .tc := ⟨.hbm, 425, rfl⟩
abbrev main_v283 : Ref sig .tc := ⟨.hbm, 426, rfl⟩
abbrev main_cst_79 : Ref sig .tc := ⟨.hbm, 427, rfl⟩
abbrev main_v284 : Ref sig .tc := ⟨.hbm, 428, rfl⟩
abbrev main_v285 : Ref sig .tc := ⟨.hbm, 429, rfl⟩
abbrev main_c_80 : Ref sig .tc := ⟨.hbm, 430, rfl⟩
abbrev main_v286 : Ref sig .tc := ⟨.hbm, 431, rfl⟩
abbrev main_c_81 : Ref sig .tc := ⟨.hbm, 432, rfl⟩
abbrev main_v287 : Ref sig .tc := ⟨.hbm, 433, rfl⟩
abbrev main_v288 : Ref sig .tc := ⟨.hbm, 434, rfl⟩
abbrev main_v289 : Ref sig .tc := ⟨.hbm, 435, rfl⟩
abbrev main_cst_82 : Ref sig .tc := ⟨.hbm, 436, rfl⟩
abbrev main_call21_v0 : Ref sig .tc := ⟨.hbm, 437, rfl⟩
abbrev main_call21_v1 : Ref sig .tc := ⟨.hbm, 438, rfl⟩
abbrev main_v290 : Ref sig .tc := ⟨.hbm, 439, rfl⟩
abbrev main_cst_83 : Ref sig .tc := ⟨.hbm, 440, rfl⟩
abbrev main_v291 : Ref sig .tc := ⟨.hbm, 441, rfl⟩
abbrev main_v292 : Ref sig .tc := ⟨.hbm, 442, rfl⟩
abbrev main_cst_84 : Ref sig .tc := ⟨.hbm, 443, rfl⟩
abbrev main_call22_v0 : Ref sig .tc := ⟨.hbm, 444, rfl⟩
abbrev main_call22_v1 : Ref sig .tc := ⟨.hbm, 445, rfl⟩
abbrev main_v293 : Ref sig .tc := ⟨.hbm, 446, rfl⟩
abbrev main_cst_85 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_v300 : Ref sig .tc := ⟨.hbm, 454, rfl⟩
abbrev main_v301 : Ref sig .tc := ⟨.hbm, 455, rfl⟩
abbrev main_v302 : Ref sig .tc := ⟨.hbm, 456, rfl⟩
abbrev main_v303 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_v309 : Ref sig .tc := ⟨.hbm, 463, rfl⟩
abbrev main_v310 : Ref sig .tc := ⟨.hbm, 464, rfl⟩
abbrev main_cst_86 : Ref sig .tc := ⟨.hbm, 465, rfl⟩
abbrev main_v311 : Ref sig .tc := ⟨.hbm, 466, rfl⟩
abbrev main_cst_87 : Ref sig .tc := ⟨.hbm, 467, rfl⟩
abbrev main_v312 : Ref sig .tc := ⟨.hbm, 468, rfl⟩
abbrev main_v313 : Ref sig .tc := ⟨.hbm, 469, rfl⟩
abbrev main_c_88 : Ref sig .tc := ⟨.hbm, 470, rfl⟩
abbrev main_v314 : Ref sig .tc := ⟨.hbm, 471, rfl⟩
abbrev main_c_89 : Ref sig .tc := ⟨.hbm, 472, rfl⟩
abbrev main_v315 : Ref sig .tc := ⟨.hbm, 473, rfl⟩
abbrev main_v316 : Ref sig .tc := ⟨.hbm, 474, rfl⟩
abbrev main_v317 : Ref sig .tc := ⟨.hbm, 475, rfl⟩
abbrev main_cst_90 : Ref sig .tc := ⟨.hbm, 476, rfl⟩
abbrev main_call23_v0 : Ref sig .tc := ⟨.hbm, 477, rfl⟩
abbrev main_call23_v1 : Ref sig .tc := ⟨.hbm, 478, rfl⟩
abbrev main_v318 : Ref sig .tc := ⟨.hbm, 479, rfl⟩
abbrev main_cst_91 : Ref sig .tc := ⟨.hbm, 480, rfl⟩
abbrev main_v319 : Ref sig .tc := ⟨.hbm, 481, rfl⟩
abbrev main_v320 : Ref sig .tc := ⟨.hbm, 482, rfl⟩
abbrev main_cst_92 : Ref sig .tc := ⟨.hbm, 483, rfl⟩
abbrev main_call24_v0 : Ref sig .tc := ⟨.hbm, 484, rfl⟩
abbrev main_call24_v1 : Ref sig .tc := ⟨.hbm, 485, rfl⟩
abbrev main_v321 : Ref sig .tc := ⟨.hbm, 486, rfl⟩
abbrev main_cst_93 : Ref sig .tc := ⟨.hbm, 487, rfl⟩
abbrev main_v322 : Ref sig .tc := ⟨.hbm, 488, rfl⟩
abbrev main_v323 : Ref sig .tc := ⟨.hbm, 489, rfl⟩
abbrev main_v324 : Ref sig .tc := ⟨.hbm, 490, rfl⟩
abbrev main_v325 : Ref sig .tc := ⟨.hbm, 491, rfl⟩
abbrev main_v326 : Ref sig .tc := ⟨.hbm, 492, rfl⟩
abbrev main_v327 : Ref sig .tc := ⟨.hbm, 493, rfl⟩
abbrev main_v328 : Ref sig .tc := ⟨.hbm, 494, rfl⟩
abbrev main_v329 : Ref sig .tc := ⟨.hbm, 495, rfl⟩
abbrev main_v330 : Ref sig .tc := ⟨.hbm, 496, rfl⟩
abbrev main_v331 : Ref sig .tc := ⟨.hbm, 497, rfl⟩
abbrev main_v332 : Ref sig .tc := ⟨.hbm, 498, rfl⟩
abbrev main_v333 : Ref sig .tc := ⟨.hbm, 499, rfl⟩
abbrev main_v334 : Ref sig .tc := ⟨.hbm, 500, rfl⟩
abbrev main_v335 : Ref sig .tc := ⟨.hbm, 501, rfl⟩
abbrev main_v336 : Ref sig .tc := ⟨.hbm, 502, rfl⟩
abbrev main_v337 : Ref sig .tc := ⟨.hbm, 503, rfl⟩
abbrev main_v338 : Ref sig .tc := ⟨.hbm, 504, rfl⟩
abbrev main_cst_94 : Ref sig .tc := ⟨.hbm, 505, rfl⟩
abbrev main_v339 : Ref sig .tc := ⟨.hbm, 506, rfl⟩
abbrev main_cst_95 : Ref sig .tc := ⟨.hbm, 507, rfl⟩
abbrev main_v340 : Ref sig .tc := ⟨.hbm, 508, rfl⟩
abbrev main_v341 : Ref sig .tc := ⟨.hbm, 509, rfl⟩
abbrev main_c_96 : Ref sig .tc := ⟨.hbm, 510, rfl⟩
abbrev main_v342 : Ref sig .tc := ⟨.hbm, 511, rfl⟩
abbrev main_c_97 : Ref sig .tc := ⟨.hbm, 512, rfl⟩
abbrev main_v343 : Ref sig .tc := ⟨.hbm, 513, rfl⟩
abbrev main_v344 : Ref sig .tc := ⟨.hbm, 514, rfl⟩
abbrev main_v345 : Ref sig .tc := ⟨.hbm, 515, rfl⟩
abbrev main_cst_98 : Ref sig .tc := ⟨.hbm, 516, rfl⟩
abbrev main_call25_v0 : Ref sig .tc := ⟨.hbm, 517, rfl⟩
abbrev main_call25_v1 : Ref sig .tc := ⟨.hbm, 518, rfl⟩
abbrev main_v346 : Ref sig .tc := ⟨.hbm, 519, rfl⟩
abbrev main_cst_99 : Ref sig .tc := ⟨.hbm, 520, rfl⟩
abbrev main_v347 : Ref sig .tc := ⟨.hbm, 521, rfl⟩
abbrev main_v348 : Ref sig .tc := ⟨.hbm, 522, rfl⟩
abbrev main_cst_100 : Ref sig .tc := ⟨.hbm, 523, rfl⟩
abbrev main_call26_v0 : Ref sig .tc := ⟨.hbm, 524, rfl⟩
abbrev main_call26_v1 : Ref sig .tc := ⟨.hbm, 525, rfl⟩
abbrev main_v349 : Ref sig .tc := ⟨.hbm, 526, rfl⟩
abbrev main_cst_101 : Ref sig .tc := ⟨.hbm, 527, rfl⟩
abbrev main_v350 : Ref sig .tc := ⟨.hbm, 528, rfl⟩
abbrev main_v351 : Ref sig .tc := ⟨.hbm, 529, rfl⟩
abbrev main_v352 : Ref sig .tc := ⟨.hbm, 530, rfl⟩
abbrev main_v353 : Ref sig .tc := ⟨.hbm, 531, rfl⟩
abbrev main_v354 : Ref sig .tc := ⟨.hbm, 532, rfl⟩
abbrev main_v355 : Ref sig .tc := ⟨.hbm, 533, rfl⟩
abbrev main_v356 : Ref sig .tc := ⟨.hbm, 534, rfl⟩
abbrev main_v357 : Ref sig .tc := ⟨.hbm, 535, rfl⟩
abbrev main_v358 : Ref sig .tc := ⟨.hbm, 536, rfl⟩
abbrev main_v359 : Ref sig .tc := ⟨.hbm, 537, rfl⟩
abbrev main_v360 : Ref sig .tc := ⟨.hbm, 538, rfl⟩
abbrev main_v361 : Ref sig .tc := ⟨.hbm, 539, rfl⟩
abbrev main_v362 : Ref sig .tc := ⟨.hbm, 540, rfl⟩
abbrev main_v363 : Ref sig .tc := ⟨.hbm, 541, rfl⟩
abbrev main_v364 : Ref sig .tc := ⟨.hbm, 542, rfl⟩
abbrev main_v365 : Ref sig .tc := ⟨.hbm, 543, rfl⟩
abbrev main_v366 : Ref sig .tc := ⟨.hbm, 544, rfl⟩
abbrev main_cst_102 : Ref sig .tc := ⟨.hbm, 545, rfl⟩
abbrev main_v367 : Ref sig .tc := ⟨.hbm, 546, rfl⟩
abbrev main_cst_103 : Ref sig .tc := ⟨.hbm, 547, rfl⟩
abbrev main_v368 : Ref sig .tc := ⟨.hbm, 548, rfl⟩
abbrev main_v369 : Ref sig .tc := ⟨.hbm, 549, rfl⟩
abbrev main_c_104 : Ref sig .tc := ⟨.hbm, 550, rfl⟩
abbrev main_v370 : Ref sig .tc := ⟨.hbm, 551, rfl⟩
abbrev main_c_105 : Ref sig .tc := ⟨.hbm, 552, rfl⟩
abbrev main_v371 : Ref sig .tc := ⟨.hbm, 553, rfl⟩
abbrev main_v372 : Ref sig .tc := ⟨.hbm, 554, rfl⟩
abbrev main_v373 : Ref sig .tc := ⟨.hbm, 555, rfl⟩
abbrev main_cst_106 : Ref sig .tc := ⟨.hbm, 556, rfl⟩
abbrev main_call27_v0 : Ref sig .tc := ⟨.hbm, 557, rfl⟩
abbrev main_call27_v1 : Ref sig .tc := ⟨.hbm, 558, rfl⟩
abbrev main_v374 : Ref sig .tc := ⟨.hbm, 559, rfl⟩
abbrev main_cst_107 : Ref sig .tc := ⟨.hbm, 560, rfl⟩
abbrev main_v375 : Ref sig .tc := ⟨.hbm, 561, rfl⟩
abbrev main_v376 : Ref sig .tc := ⟨.hbm, 562, rfl⟩
abbrev main_cst_108 : Ref sig .tc := ⟨.hbm, 563, rfl⟩
abbrev main_call28_v0 : Ref sig .tc := ⟨.hbm, 564, rfl⟩
abbrev main_call28_v1 : Ref sig .tc := ⟨.hbm, 565, rfl⟩
abbrev main_v377 : Ref sig .tc := ⟨.hbm, 566, rfl⟩
abbrev main_cst_109 : Ref sig .tc := ⟨.hbm, 567, rfl⟩
abbrev main_v378 : Ref sig .tc := ⟨.hbm, 568, rfl⟩
abbrev main_v379 : Ref sig .tc := ⟨.hbm, 569, rfl⟩
abbrev main_v380 : Ref sig .tc := ⟨.hbm, 570, rfl⟩
abbrev main_v381 : Ref sig .tc := ⟨.hbm, 571, rfl⟩
abbrev main_v382 : Ref sig .tc := ⟨.hbm, 572, rfl⟩
abbrev main_v383 : Ref sig .tc := ⟨.hbm, 573, rfl⟩
abbrev main_v384 : Ref sig .tc := ⟨.hbm, 574, rfl⟩
abbrev main_v385 : Ref sig .tc := ⟨.hbm, 575, rfl⟩
abbrev main_v386 : Ref sig .tc := ⟨.hbm, 576, rfl⟩
abbrev main_v387 : Ref sig .tc := ⟨.hbm, 577, rfl⟩
abbrev main_v388 : Ref sig .tc := ⟨.hbm, 578, rfl⟩
abbrev main_v389 : Ref sig .tc := ⟨.hbm, 579, rfl⟩
abbrev main_v390 : Ref sig .tc := ⟨.hbm, 580, rfl⟩
abbrev main_v391 : Ref sig .tc := ⟨.hbm, 581, rfl⟩
abbrev main_v392 : Ref sig .tc := ⟨.hbm, 582, rfl⟩
abbrev main_v393 : Ref sig .tc := ⟨.hbm, 583, rfl⟩
abbrev main_v394 : Ref sig .tc := ⟨.hbm, 584, rfl⟩
abbrev main_cst_110 : Ref sig .tc := ⟨.hbm, 585, rfl⟩
abbrev main_v395 : Ref sig .tc := ⟨.hbm, 586, rfl⟩
abbrev main_cst_111 : Ref sig .tc := ⟨.hbm, 587, rfl⟩
abbrev main_v396 : Ref sig .tc := ⟨.hbm, 588, rfl⟩
abbrev main_v397 : Ref sig .tc := ⟨.hbm, 589, rfl⟩
abbrev main_c_112 : Ref sig .tc := ⟨.hbm, 590, rfl⟩
abbrev main_v398 : Ref sig .tc := ⟨.hbm, 591, rfl⟩
abbrev main_c_113 : Ref sig .tc := ⟨.hbm, 592, rfl⟩
abbrev main_v399 : Ref sig .tc := ⟨.hbm, 593, rfl⟩
abbrev main_v400 : Ref sig .tc := ⟨.hbm, 594, rfl⟩
abbrev main_v401 : Ref sig .tc := ⟨.hbm, 595, rfl⟩
abbrev main_cst_114 : Ref sig .tc := ⟨.hbm, 596, rfl⟩
abbrev main_call29_v0 : Ref sig .tc := ⟨.hbm, 597, rfl⟩
abbrev main_call29_v1 : Ref sig .tc := ⟨.hbm, 598, rfl⟩
abbrev main_v402 : Ref sig .tc := ⟨.hbm, 599, rfl⟩
abbrev main_cst_115 : Ref sig .tc := ⟨.hbm, 600, rfl⟩
abbrev main_v403 : Ref sig .tc := ⟨.hbm, 601, rfl⟩
abbrev main_v404 : Ref sig .tc := ⟨.hbm, 602, rfl⟩
abbrev main_cst_116 : Ref sig .tc := ⟨.hbm, 603, rfl⟩
abbrev main_call30_v0 : Ref sig .tc := ⟨.hbm, 604, rfl⟩
abbrev main_call30_v1 : Ref sig .tc := ⟨.hbm, 605, rfl⟩
abbrev main_v405 : Ref sig .tc := ⟨.hbm, 606, rfl⟩
abbrev main_cst_117 : Ref sig .tc := ⟨.hbm, 607, rfl⟩
abbrev main_v406 : Ref sig .tc := ⟨.hbm, 608, rfl⟩
abbrev main_v407 : Ref sig .tc := ⟨.hbm, 609, rfl⟩
abbrev main_v408 : Ref sig .tc := ⟨.hbm, 610, rfl⟩
abbrev main_v409 : Ref sig .tc := ⟨.hbm, 611, rfl⟩
abbrev main_v410 : Ref sig .tc := ⟨.hbm, 612, rfl⟩
abbrev main_v411 : Ref sig .tc := ⟨.hbm, 613, rfl⟩
abbrev main_v412 : Ref sig .tc := ⟨.hbm, 614, rfl⟩
abbrev main_v413 : Ref sig .tc := ⟨.hbm, 615, rfl⟩
abbrev main_v414 : Ref sig .tc := ⟨.hbm, 616, rfl⟩
abbrev main_v415 : Ref sig .tc := ⟨.hbm, 617, rfl⟩
abbrev main_v416 : Ref sig .tc := ⟨.hbm, 618, rfl⟩
abbrev main_v417 : Ref sig .tc := ⟨.hbm, 619, rfl⟩
abbrev main_v418 : Ref sig .tc := ⟨.hbm, 620, rfl⟩
abbrev main_v419 : Ref sig .tc := ⟨.hbm, 621, rfl⟩
abbrev main_v420 : Ref sig .tc := ⟨.hbm, 622, rfl⟩
abbrev main_v421 : Ref sig .tc := ⟨.hbm, 623, rfl⟩
abbrev main_v422 : Ref sig .tc := ⟨.hbm, 624, rfl⟩
abbrev main_cst_118 : Ref sig .tc := ⟨.hbm, 625, rfl⟩
abbrev main_v423 : Ref sig .tc := ⟨.hbm, 626, rfl⟩
abbrev main_cst_119 : Ref sig .tc := ⟨.hbm, 627, rfl⟩
abbrev main_v424 : Ref sig .tc := ⟨.hbm, 628, rfl⟩
abbrev main_v425 : Ref sig .tc := ⟨.hbm, 629, rfl⟩
abbrev main_c_120 : Ref sig .tc := ⟨.hbm, 630, rfl⟩
abbrev main_v426 : Ref sig .tc := ⟨.hbm, 631, rfl⟩
abbrev main_c_121 : Ref sig .tc := ⟨.hbm, 632, rfl⟩
abbrev main_v427 : Ref sig .tc := ⟨.hbm, 633, rfl⟩
abbrev main_v428 : Ref sig .tc := ⟨.hbm, 634, rfl⟩
abbrev main_v429 : Ref sig .tc := ⟨.hbm, 635, rfl⟩
abbrev main_cst_122 : Ref sig .tc := ⟨.hbm, 636, rfl⟩
abbrev main_call31_v0 : Ref sig .tc := ⟨.hbm, 637, rfl⟩
abbrev main_call31_v1 : Ref sig .tc := ⟨.hbm, 638, rfl⟩
abbrev main_v430 : Ref sig .tc := ⟨.hbm, 639, rfl⟩
abbrev main_cst_123 : Ref sig .tc := ⟨.hbm, 640, rfl⟩
abbrev main_v431 : Ref sig .tc := ⟨.hbm, 641, rfl⟩
abbrev main_v432 : Ref sig .tc := ⟨.hbm, 642, rfl⟩
abbrev main_cst_124 : Ref sig .tc := ⟨.hbm, 643, rfl⟩
abbrev main_call32_v0 : Ref sig .tc := ⟨.hbm, 644, rfl⟩
abbrev main_call32_v1 : Ref sig .tc := ⟨.hbm, 645, rfl⟩
abbrev main_v433 : Ref sig .tc := ⟨.hbm, 646, rfl⟩
abbrev main_cst_125 : Ref sig .tc := ⟨.hbm, 647, rfl⟩
abbrev main_v434 : Ref sig .tc := ⟨.hbm, 648, rfl⟩
abbrev main_v435 : Ref sig .tc := ⟨.hbm, 649, rfl⟩
abbrev main_v436 : Ref sig .tc := ⟨.hbm, 650, rfl⟩
abbrev main_v437 : Ref sig .tc := ⟨.hbm, 651, rfl⟩
abbrev main_v438 : Ref sig .tc := ⟨.hbm, 652, rfl⟩
abbrev main_v439 : Ref sig .tc := ⟨.hbm, 653, rfl⟩
abbrev main_v440 : Ref sig .tc := ⟨.hbm, 654, rfl⟩

abbrev nD : Nat := 1
abbrev τ : Topo := Topo.v7x

variable {F : FTy → Type} [FloatOps F]
-- ==== Proof.KernelIdealTrip.lean ====
/-
  One trip of the kernel's loop, at a symbolic trip number.

  The two inputs left in HBM are cut into 8 quads of 4 row blocks of 512 rows. Before trip `k` the four
  blocks of quad `k` of both inputs are in flight, each into its own buffer on its own semaphore, and the
  other quads are home. Trip `k` waits for the four blocks in turn, adds each one's counts and sums to the
  accumulator, and sends for the block of quad `k + 1` that takes its place, if there is one.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The row blocks -/

abbrev xM : Memref sig .tc .hbm S16384x1000 .f32 := Memref.whole main_arg0
abbrev yM : Memref sig .tc .hbm S16384x1 .i32 := Memref.whole main_call0_v0
abbrev accM : Memref sig .tc .vmem S3x16 .f32 := Memref.whole cc0_scratch0

/-- Where block `t` of quad `q` begins. -/
abbrev blkOff (q : Fin 8) (t : Fin 4) : Fin 2 → Nat := ![2048 * q.val + 512 * t.val, 0]
theorem xOff_inb (q : Fin 8) (t : Fin 4) : ∀ a, blkOff q t a + S512x1000.size a ≤ S16384x1000.size a := by
  have := q.isLt; have := t.isLt; intro a; fin_cases a
  · show 2048 * q.val + 512 * t.val + 512 ≤ 16384; omega
  · show 0 + 1000 ≤ 1000; omega
theorem yOff_inb (q : Fin 8) (t : Fin 4) : ∀ a, blkOff q t a + S512x1.size a ≤ S16384x1.size a := by
  have := q.isLt; have := t.isLt; intro a; fin_cases a
  · show 2048 * q.val + 512 * t.val + 512 ≤ 16384; omega
  · show 0 + 1 ≤ 1; omega

/-- Block `t` of quad `q` of the logits, and of the labels. -/
def xblk (q : Fin 8) (t : Fin 4) : Memref sig .tc .hbm S512x1000 .f32 :=
  xM.slice (Rect.unit (s := S16384x1000) (blkOff q t) S512x1000.size (xOff_inb q t)) (fun _ => rfl)
def yblk (q : Fin 8) (t : Fin 4) : Memref sig .tc .hbm S512x1 .i32 :=
  yM.slice (Rect.unit (s := S16384x1) (blkOff q t) S512x1.size (yOff_inb q t)) (fun _ => rfl)

/-! ### The offsets and conditions of trip `k`, in closed form -/

theorem off1_eq : ∀ (k : Fin k0_t1_loop.trips) (t : Fin 4), k0_off1 k (BitVec.ofNat 32 t.val) = blkOff (Ring.bk 8 k.val) t := by decide +kernel
theorem off2_eq : ∀ (k : Fin k0_t1_loop.trips) (t : Fin 4), k0_off2 k (BitVec.ofNat 32 t.val) = blkOff (Ring.bk 8 k.val) t := by decide +kernel
theorem off3_eq : ∀ k : Fin k0_t1_loop.trips, k.val + 1 < 8 → k0_off3 k = blkOff (Ring.bk 8 (k.val + 1)) 0 := by decide +kernel
theorem off4_eq : ∀ k : Fin k0_t1_loop.trips, k.val + 1 < 8 → k0_off4 k = blkOff (Ring.bk 8 (k.val + 1)) 0 := by decide +kernel
theorem off5_eq : ∀ k : Fin k0_t1_loop.trips, k.val + 1 < 8 → k0_off5 k = blkOff (Ring.bk 8 (k.val + 1)) 1 := by decide +kernel
theorem off6_eq : ∀ k : Fin k0_t1_loop.trips, k.val + 1 < 8 → k0_off6 k = blkOff (Ring.bk 8 (k.val + 1)) 1 := by decide +kernel
theorem off7_eq : ∀ k : Fin k0_t1_loop.trips, k.val + 1 < 8 → k0_off7 k = blkOff (Ring.bk 8 (k.val + 1)) 2 := by decide +kernel
theorem off8_eq : ∀ k : Fin k0_t1_loop.trips, k.val + 1 < 8 → k0_off8 k = blkOff (Ring.bk 8 (k.val + 1)) 2 := by decide +kernel
theorem off9_eq : ∀ k : Fin k0_t1_loop.trips, k.val + 1 < 8 → k0_off9 k = blkOff (Ring.bk 8 (k.val + 1)) 3 := by decide +kernel
theorem off10_eq : ∀ k : Fin k0_t1_loop.trips, k.val + 1 < 8 → k0_off10 k = blkOff (Ring.bk 8 (k.val + 1)) 3 := by decide +kernel

/-- The trip sends for the next quad's blocks exactly when there is a next quad. -/
theorem cond_mid : ∀ k : Fin k0_t1_loop.trips, k.val + 1 < 8 →
    k0_cond1 k = 1#1 ∧ k0_cond2 k = 1#1 ∧ k0_cond3 k = 1#1 ∧ k0_cond4 k = 1#1 := by decide +kernel
theorem cond_last : ∀ k : Fin k0_t1_loop.trips, ¬ k.val + 1 < 8 →
    ¬ k0_cond1 k = 1#1 ∧ ¬ k0_cond2 k = 1#1 ∧ ¬ k0_cond3 k = 1#1 ∧ ¬ k0_cond4 k = 1#1 := by decide +kernel
theorem trips_eq : k0_t1_loop.trips = 8 := by decide +kernel

/-! ### The kernel's slices are the blocks -/

private theorem x_congr {off : Fin 2 → Nat} {q : Fin 8} {t : Fin 4} (e : off = blkOff q t) (hh hs) :
    xM.slice (Rect.unit (s := S16384x1000) off S512x1000.size hh) hs = xblk q t := Memref.slice_unit_congr _ e _ _ _ (fun _ => rfl)
private theorem y_congr {off : Fin 2 → Nat} {q : Fin 8} {t : Fin 4} (e : off = blkOff q t) (hh hs) :
    yM.slice (Rect.unit (s := S16384x1) off S512x1.size hh) hs = yblk q t := Memref.slice_unit_congr _ e _ _ _ (fun _ => rfl)

@[sl_canon] theorem xL0 (hh hs) : xM.slice (Rect.unit (s := S16384x1000) ![0, 0] S512x1000.size hh) hs = xblk 0 0 := x_congr (by decide) _ _
@[sl_canon] theorem xL1 (hh hs) : xM.slice (Rect.unit (s := S16384x1000) ![512, 0] S512x1000.size hh) hs = xblk 0 1 := x_congr (by decide) _ _
@[sl_canon] theorem xL2 (hh hs) : xM.slice (Rect.unit (s := S16384x1000) ![1024, 0] S512x1000.size hh) hs = xblk 0 2 := x_congr (by decide) _ _
@[sl_canon] theorem xL3 (hh hs) : xM.slice (Rect.unit (s := S16384x1000) ![1536, 0] S512x1000.size hh) hs = xblk 0 3 := x_congr (by decide) _ _
@[sl_canon] theorem yL0 (hh hs) : yM.slice (Rect.unit (s := S16384x1) ![0, 0] S512x1.size hh) hs = yblk 0 0 := y_congr (by decide) _ _
@[sl_canon] theorem yL1 (hh hs) : yM.slice (Rect.unit (s := S16384x1) ![512, 0] S512x1.size hh) hs = yblk 0 1 := y_congr (by decide) _ _
@[sl_canon] theorem yL2 (hh hs) : yM.slice (Rect.unit (s := S16384x1) ![1024, 0] S512x1.size hh) hs = yblk 0 2 := y_congr (by decide) _ _
@[sl_canon] theorem yL3 (hh hs) : yM.slice (Rect.unit (s := S16384x1) ![1536, 0] S512x1.size hh) hs = yblk 0 3 := y_congr (by decide) _ _

section Canon
variable (k : Fin k0_t1_loop.trips)
@[sl_canon] theorem xW0 (hh hs) : xM.slice (Rect.unit (s := S16384x1000) (k0_off1 k 0#32) S512x1000.size hh) hs = xblk (Ring.bk 8 k.val) 0 := x_congr (off1_eq k 0) _ _
@[sl_canon] theorem xW1 (hh hs) : xM.slice (Rect.unit (s := S16384x1000) (k0_off1 k 1#32) S512x1000.size hh) hs = xblk (Ring.bk 8 k.val) 1 := x_congr (off1_eq k 1) _ _
@[sl_canon] theorem xW2 (hh hs) : xM.slice (Rect.unit (s := S16384x1000) (k0_off1 k 2#32) S512x1000.size hh) hs = xblk (Ring.bk 8 k.val) 2 := x_congr (off1_eq k 2) _ _
@[sl_canon] theorem xW3 (hh hs) : xM.slice (Rect.unit (s := S16384x1000) (k0_off1 k 3#32) S512x1000.size hh) hs = xblk (Ring.bk 8 k.val) 3 := x_congr (off1_eq k 3) _ _
@[sl_canon] theorem yW0 (hh hs) : yM.slice (Rect.unit (s := S16384x1) (k0_off2 k 0#32) S512x1.size hh) hs = yblk (Ring.bk 8 k.val) 0 := y_congr (off2_eq k 0) _ _
@[sl_canon] theorem yW1 (hh hs) : yM.slice (Rect.unit (s := S16384x1) (k0_off2 k 1#32) S512x1.size hh) hs = yblk (Ring.bk 8 k.val) 1 := y_congr (off2_eq k 1) _ _
@[sl_canon] theorem yW2 (hh hs) : yM.slice (Rect.unit (s := S16384x1) (k0_off2 k 2#32) S512x1.size hh) hs = yblk (Ring.bk 8 k.val) 2 := y_congr (off2_eq k 2) _ _
@[sl_canon] theorem yW3 (hh hs) : yM.slice (Rect.unit (s := S16384x1) (k0_off2 k 3#32) S512x1.size hh) hs = yblk (Ring.bk 8 k.val) 3 := y_congr (off2_eq k 3) _ _
@[sl_canon] theorem xI0 (hk : k.val + 1 < 8) (hh hs) : xM.slice (Rect.unit (s := S16384x1000) (k0_off3 k) S512x1000.size hh) hs = xblk (Ring.bk 8 (k.val + 1)) 0 := x_congr (off3_eq k hk) _ _
@[sl_canon] theorem yI0 (hk : k.val + 1 < 8) (hh hs) : yM.slice (Rect.unit (s := S16384x1) (k0_off4 k) S512x1.size hh) hs = yblk (Ring.bk 8 (k.val + 1)) 0 := y_congr (off4_eq k hk) _ _
@[sl_canon] theorem xI1 (hk : k.val + 1 < 8) (hh hs) : xM.slice (Rect.unit (s := S16384x1000) (k0_off5 k) S512x1000.size hh) hs = xblk (Ring.bk 8 (k.val + 1)) 1 := x_congr (off5_eq k hk) _ _
@[sl_canon] theorem yI1 (hk : k.val + 1 < 8) (hh hs) : yM.slice (Rect.unit (s := S16384x1) (k0_off6 k) S512x1.size hh) hs = yblk (Ring.bk 8 (k.val + 1)) 1 := y_congr (off6_eq k hk) _ _
@[sl_canon] theorem xI2 (hk : k.val + 1 < 8) (hh hs) : xM.slice (Rect.unit (s := S16384x1000) (k0_off7 k) S512x1000.size hh) hs = xblk (Ring.bk 8 (k.val + 1)) 2 := x_congr (off7_eq k hk) _ _
@[sl_canon] theorem yI2 (hk : k.val + 1 < 8) (hh hs) : yM.slice (Rect.unit (s := S16384x1) (k0_off8 k) S512x1.size hh) hs = yblk (Ring.bk 8 (k.val + 1)) 2 := y_congr (off8_eq k hk) _ _
@[sl_canon] theorem xI3 (hk : k.val + 1 < 8) (hh hs) : xM.slice (Rect.unit (s := S16384x1000) (k0_off9 k) S512x1000.size hh) hs = xblk (Ring.bk 8 (k.val + 1)) 3 := x_congr (off9_eq k hk) _ _
@[sl_canon] theorem yI3 (hk : k.val + 1 < 8) (hh hs) : yM.slice (Rect.unit (s := S16384x1) (k0_off10 k) S512x1.size hh) hs = yblk (Ring.bk 8 (k.val + 1)) 3 := y_congr (off10_eq k hk) _ _
end Canon

/-! ## The pieces: a block home, a buffer held, a block in flight -/

section Pieces
variable (c : Dev nD) (X : Buf (Elt F) (xM.view.loc (c : Thread nD τ))) (Y : Buf (Elt F) (yM.view.loc (c : Thread nD τ)))

abbrev cellP (s : DmaSems sig S_) : sProp 𝕄 := semVal ((c : Thread nD τ), SemLoc.dma s.sem) 0
abbrev heldP {sp : Space} {S : Shape} {e : EltTy} (M : Memref sig .tc sp S e) (f : Buf (Elt F) (M.view.loc (c : Thread nD τ))) : sProp 𝕄 :=
  M.view.loc (c : Thread nD τ) ↦[M.view.set]{fullShare} f
/-- The two blocks of number `t` in quad `q`, home; -/
abbrev xhome (q : Fin 8) (t : Fin 4) : sProp 𝕄 := (xblk q t).view.loc (c : Thread nD τ) ↦[(xblk q t).view.set]{fullShare} X
abbrev yhome (q : Fin 8) (t : Fin 4) : sProp 𝕄 := (yblk q t).view.loc (c : Thread nD τ) ↦[(yblk q t).view.set]{fullShare} Y
/-- quad `q` home. -/
def quadP (q : Fin 8) : sProp 𝕄 :=
  iprop((xhome c X q 0 ∗ xhome c X q 1 ∗ xhome c X q 2 ∗ xhome c X q 3) ∗ (yhome c Y q 0 ∗ yhome c Y q 1 ∗ yhome c Y q 2 ∗ yhome c Y q 3))
/-- A block's words, as a transfer carries them. -/
abbrev xpay (q : Fin 8) (t : Fin 4) : S512x1000.Idx → Elt F .f32 := ReadAs.same.apply ((xblk q t).view.read (Elt F) X)
abbrev ypay (q : Fin 8) (t : Fin 4) : S512x1.Idx → Elt F .i32 := ReadAs.same.apply ((yblk q t).view.read (Elt F) Y)
/-- A buffer in flight with a block, issued over `f`. -/
abbrev xflight (M : Memref sig .tc .vmem S512x1000 .f32) (s : DmaSems sig S_) (q : Fin 8) (t : Fin 4) (f : Buf (Elt F) (M.view.loc (c : Thread nD τ))) : sProp 𝕄 :=
  Transfers.Flight countersEmb (c : Thread nD τ) (SemLoc.dma s.sem) () 65536
    iprop(heldP c M (M.view.writes (Elt F) f [⟨Rect.whole S512x1000, xpay c X q t⟩]) ∗ xhome c X q t)
abbrev yflight (M : Memref sig .tc .vmem S512x1 .i32) (s : DmaSems sig S_) (q : Fin 8) (t : Fin 4) (f : Buf (Elt F) (M.view.loc (c : Thread nD τ))) : sProp 𝕄 :=
  Transfers.Flight countersEmb (c : Thread nD τ) (SemLoc.dma s.sem) () 8192
    iprop(heldP c M (M.view.writes (Elt F) f [⟨Rect.whole S512x1, ypay c Y q t⟩]) ∗ yhome c Y q t)

abbrev mx0 : Memref sig .tc .vmem S512x1000 .f32 := Memref.whole cc0_scratch1
abbrev mx1 : Memref sig .tc .vmem S512x1000 .f32 := Memref.whole cc0_scratch2
abbrev mx2 : Memref sig .tc .vmem S512x1000 .f32 := Memref.whole cc0_scratch3
abbrev mx3 : Memref sig .tc .vmem S512x1000 .f32 := Memref.whole cc0_scratch4
abbrev my0 : Memref sig .tc .vmem S512x1 .i32 := Memref.whole cc0_scratch5
abbrev my1 : Memref sig .tc .vmem S512x1 .i32 := Memref.whole cc0_scratch6
abbrev my2 : Memref sig .tc .vmem S512x1 .i32 := Memref.whole cc0_scratch7
abbrev my3 : Memref sig .tc .vmem S512x1 .i32 := Memref.whole cc0_scratch8

/-- A buffer sent for anew, over what an earlier block left in it, is a buffer in flight. -/
theorem xflight_next (M : Memref sig .tc .vmem S512x1000 .f32) (s : DmaSems sig S_) (q : Fin 8) (t : Fin 4)
    (f : Buf (Elt F) (M.view.loc (c : Thread nD τ))) (w : S512x1000.Idx → Elt F .f32) :
    Transfers.Flight countersEmb (c : Thread nD τ) (SemLoc.dma s.sem) () 65536
      iprop(heldP c M (M.view.writes (Elt F) f [⟨Rect.whole S512x1000, xpay c X q t⟩, ⟨Rect.whole S512x1000, w⟩]) ∗ xhome c X q t)
    ⊢ (iprop(∃ f, xflight c X M s q t f) : sProp 𝕄) := by
  iintro H
  iexists (M.view.writes (Elt F) f [⟨Rect.whole S512x1000, w⟩])
  iexact H
theorem yflight_next (M : Memref sig .tc .vmem S512x1 .i32) (s : DmaSems sig S_) (q : Fin 8) (t : Fin 4)
    (f : Buf (Elt F) (M.view.loc (c : Thread nD τ))) (w : S512x1.Idx → Elt F .i32) :
    Transfers.Flight countersEmb (c : Thread nD τ) (SemLoc.dma s.sem) () 8192
      iprop(heldP c M (M.view.writes (Elt F) f [⟨Rect.whole S512x1, ypay c Y q t⟩, ⟨Rect.whole S512x1, w⟩]) ∗ yhome c Y q t)
    ⊢ (iprop(∃ f, yflight c Y M s q t f) : sProp 𝕄) := by
  iintro H
  iexists (M.view.writes (Elt F) f [⟨Rect.whole S512x1, w⟩])
  iexact H

/-- Quad `q` in flight. -/
def flightsP (q : Fin 8) : sProp 𝕄 :=
  iprop((∃ f, xflight c X mx0 cc0_scratch9 q 0 f) ∗ (∃ f, xflight c X mx1 cc0_scratch10 q 1 f)
    ∗ (∃ f, xflight c X mx2 cc0_scratch11 q 2 f) ∗ (∃ f, xflight c X mx3 cc0_scratch12 q 3 f)
    ∗ (∃ f, yflight c Y my0 cc0_scratch13 q 0 f) ∗ (∃ f, yflight c Y my1 cc0_scratch14 q 1 f)
    ∗ (∃ f, yflight c Y my2 cc0_scratch15 q 2 f) ∗ (∃ f, yflight c Y my3 cc0_scratch16 q 3 f))
/-- The eight buffers free, the eight semaphores at zero. -/
def freeP : sProp 𝕄 :=
  iprop((∃ f, heldP c mx0 f) ∗ (∃ f, heldP c mx1 f) ∗ (∃ f, heldP c mx2 f) ∗ (∃ f, heldP c mx3 f)
    ∗ (∃ f, heldP c my0 f) ∗ (∃ f, heldP c my1 f) ∗ (∃ f, heldP c my2 f) ∗ (∃ f, heldP c my3 f)
    ∗ cellP c cc0_scratch9 ∗ cellP c cc0_scratch10 ∗ cellP c cc0_scratch11 ∗ cellP c cc0_scratch12
    ∗ cellP c cc0_scratch13 ∗ cellP c cc0_scratch14 ∗ cellP c cc0_scratch15 ∗ cellP c cc0_scratch16)

/-- What is held before trip `k`, the accumulator at `a`: the quads but `k` home, quad `k` in flight, or
    nothing in flight after the last trip; the core's waits. -/
def resAt (k : ℕ) (a : Buf (Elt F) (accM.view.loc (c : Thread nD τ))) : sProp 𝕄 :=
  iprop(heldP c accM a ∗ (∃ W, owes (c : Thread nD τ) 0 W) ∗ bigSep (Ring.homeSet 1 k) (quadP c X Y)
    ∗ if k < 8 then flightsP c X Y (Ring.bk 8 k) else freeP c)

theorem quads_here (k : ℕ) (hk : k + 1 < 8) :
    bigSep (Ring.homeSet 1 k) (quadP c X Y) = iprop(quadP c X Y (Ring.bk 8 (k + 1)) ∗ bigSep ((Ring.homeSet 1 k).erase (Ring.bk 8 (k + 1))) (quadP c X Y)) := by
  conv_lhs => rw [Ring.homeSet_out 1 k hk, bigSep_insert (Ring.bkL_not_mem_erase 1 k)]
  rfl
theorem quads_next (k : ℕ) (hk : k + 1 < 8) :
    bigSep (Ring.homeSet 1 (k + 1)) (quadP c X Y) = iprop(quadP c X Y (Ring.bk 8 k) ∗ bigSep ((Ring.homeSet 1 k).erase (Ring.bk 8 (k + 1))) (quadP c X Y)) := by
  conv_lhs => rw [Ring.homeSet_succ 1 k hk, bigSep_insert (Ring.bk_not_mem_erase 1 k (by omega) (by decide))]
  rfl
theorem quads_tail (k : ℕ) (hk : 8 ≤ k + 1) (hk' : k < 8) :
    bigSep (Ring.homeSet 1 (k + 1)) (quadP c X Y) = iprop(quadP c X Y (Ring.bk 8 k) ∗ bigSep (Ring.homeSet 1 k) (quadP c X Y)) := by
  conv_lhs => rw [Ring.homeSet_succ_tail 1 k hk hk', bigSep_insert (Ring.bk_not_mem_homeSet 1 k hk' (by decide))]
  rfl

end Pieces

section Trip
variable (c : Dev nD) (X : Buf (Elt F) (xM.view.loc (c : Thread nD τ))) (Y : Buf (Elt F) (yM.view.loc (c : Thread nD τ)))
  (arg2 : Memref sig .tc .smem S1 .f32) (harg2 : arg2.IsWhole)

abbrev tripG (k : Fin k0_t1_loop.trips) : Prog (TpuEff nD τ sig (Elt F) Λ₀ .tc) Unit :=
  k0_t1_body (F := F) xM (Memref.isWhole_whole _) yM (Memref.isWhole_whole _) arg2 harg2 accM (Memref.isWhole_whole _)
    mx0 (Memref.isWhole_whole _) mx1 (Memref.isWhole_whole _) mx2 (Memref.isWhole_whole _) mx3 (Memref.isWhole_whole _)
    my0 (Memref.isWhole_whole _) my1 (Memref.isWhole_whole _) my2 (Memref.isWhole_whole _) my3 (Memref.isWhole_whole _)
    cc0_scratch9 cc0_scratch10 cc0_scratch11 cc0_scratch12 cc0_scratch13 cc0_scratch14 cc0_scratch15 cc0_scratch16 k ()

set_option maxHeartbeats 1000000 in
set_option backward.proofsInPublic true in
def tripLast (k : Fin k0_t1_loop.trips) (hk : ¬ k.val + 1 < 8) (a : Buf (Elt F) (accM.view.loc (c : Thread nD τ))) :
    { w : Buf (Elt F) (accM.view.loc (c : Thread nD τ)) //
      resAt c X Y k a ⊢ wp frame (wpE (defs₀ (F := F)) 𝒱₀ (c : Thread nD τ) none) Set.univ (tripG arg2 harg2 k)
        (fun _ => resAt c X Y (k.val + 1) w) } := by
  refine ⟨?_, ?run⟩
  case run =>
    have h8 : k.val < 8 := by exact Nat.lt_of_lt_of_eq k.isLt trips_eq
    obtain ⟨h1, h2, h3, h4⟩ := cond_last k hk
    unfold resAt
    rw [if_pos h8, if_neg hk, quads_tail c X Y k.val (by omega) h8]
    unfold flightsP freeP
    iintro ⟨HO, ⟨%W, HW⟩, Hrest, ⟨%f0, Hx0⟩, ⟨%f1, Hx1⟩, ⟨%f2, Hx2⟩, ⟨%f3, Hx3⟩, ⟨%g0, Hy0⟩, ⟨%g1, Hy1⟩, ⟨%g2, Hy2⟩, ⟨%g3, Hy3⟩⟩
    dsimp only [tripG]
    sl_unfold [k0_t1_body]
    sl_exec
    sl_step
    isplitl [HO]; · iexact HO
    isplitl [HW]; · iexists _; iexact HW
    isplitl [Hrest Hx0_src Hx1_src Hx2_src Hx3_src Hy0_src Hy1_src Hy2_src Hy3_src]
    · isplitr [Hrest]
      · unfold quadP
        isplitl [Hx0_src Hx1_src Hx2_src Hx3_src]
        · isplitl [Hx0_src]; · iexact Hx0_src
          isplitl [Hx1_src]; · iexact Hx1_src
          isplitl [Hx2_src]; · iexact Hx2_src
          iexact Hx3_src
        · isplitl [Hy0_src]; · iexact Hy0_src
          isplitl [Hy1_src]; · iexact Hy1_src
          isplitl [Hy2_src]; · iexact Hy2_src
          iexact Hy3_src
      · iexact Hrest
    isplitl [Hx0_dst]; · iexists _; iexact Hx0_dst
    isplitl [Hx1_dst]; · iexists _; iexact Hx1_dst
    isplitl [Hx2_dst]; · iexists _; iexact Hx2_dst
    isplitl [Hx3_dst]; · iexists _; iexact Hx3_dst
    isplitl [Hy0_dst]; · iexists _; iexact Hy0_dst
    isplitl [Hy1_dst]; · iexists _; iexact Hy1_dst
    isplitl [Hy2_dst]; · iexists _; iexact Hy2_dst
    isplitl [Hy3_dst]; · iexists _; iexact Hy3_dst
    isplitl [Hx0]; · iexact Hx0
    isplitl [Hx1]; · iexact Hx1
    isplitl [Hx2]; · iexact Hx2
    isplitl [Hx3]; · iexact Hx3
    isplitl [Hy0]; · iexact Hy0
    isplitl [Hy1]; · iexact Hy1
    isplitl [Hy2]; · iexact Hy2
    iexact Hy3

set_option maxHeartbeats 1000000 in
set_option backward.proofsInPublic true in
def tripMid (k : Fin k0_t1_loop.trips) (hk : k.val + 1 < 8) (a : Buf (Elt F) (accM.view.loc (c : Thread nD τ))) :
    { w : Buf (Elt F) (accM.view.loc (c : Thread nD τ)) //
      resAt c X Y k a ⊢ wp frame (wpE (defs₀ (F := F)) 𝒱₀ (c : Thread nD τ) none) Set.univ (tripG arg2 harg2 k)
        (fun _ => resAt c X Y (k.val + 1) w) } := by
  refine ⟨?_, ?run⟩
  case run =>
    have h8 : k.val < 8 := by omega
    obtain ⟨h1, h2, h3, h4⟩ := cond_mid k hk
    unfold resAt
    rw [if_pos h8, if_pos hk, quads_here c X Y k.val hk, quads_next c X Y k.val hk]
    unfold flightsP
    iintro ⟨HO, ⟨%W, HW⟩, ⟨Hq, Hrest⟩, ⟨%f0, Hx0⟩, ⟨%f1, Hx1⟩, ⟨%f2, Hx2⟩, ⟨%f3, Hx3⟩, ⟨%g0, Hy0⟩, ⟨%g1, Hy1⟩, ⟨%g2, Hy2⟩, ⟨%g3, Hy3⟩⟩
    unfold quadP
    icases Hq with ⟨⟨Hq0, Hq1, Hq2, Hq3⟩, ⟨Hp0, Hp1, Hp2, Hp3⟩⟩
    dsimp only [tripG]
    sl_unfold [k0_t1_body]
    sl_exec
    sl_step
    isplitl [HO]; · iexact HO
    isplitl [HW]; · iexists _; iexact HW
    isplitl [Hrest Hx0_src Hx1_src Hx2_src Hx3_src Hy0_src Hy1_src Hy2_src Hy3_src]
    · isplitr [Hrest]
      · isplitl [Hx0_src Hx1_src Hx2_src Hx3_src]
        · isplitl [Hx0_src]; · iexact Hx0_src
          isplitl [Hx1_src]; · iexact Hx1_src
          isplitl [Hx2_src]; · iexact Hx2_src
          iexact Hx3_src
        · isplitl [Hy0_src]; · iexact Hy0_src
          isplitl [Hy1_src]; · iexact Hy1_src
          isplitl [Hy2_src]; · iexact Hy2_src
          iexact Hy3_src
      · iexact Hrest
    isplitl [Hx0]; · iapply (xflight_next c X mx0 _ (Ring.bk 8 (k.val + 1)) 0 _ _); iexact Hx0
    isplitl [Hx1]; · iapply (xflight_next c X mx1 _ (Ring.bk 8 (k.val + 1)) 1 _ _); iexact Hx1
    isplitl [Hx2]; · iapply (xflight_next c X mx2 _ (Ring.bk 8 (k.val + 1)) 2 _ _); iexact Hx2
    isplitl [Hx3]; · iapply (xflight_next c X mx3 _ (Ring.bk 8 (k.val + 1)) 3 _ _); iexact Hx3
    isplitl [Hy0]; · iapply (yflight_next c Y my0 _ (Ring.bk 8 (k.val + 1)) 0 _ _); iexact Hy0
    isplitl [Hy1]; · iapply (yflight_next c Y my1 _ (Ring.bk 8 (k.val + 1)) 1 _ _); iexact Hy1
    isplitl [Hy2]; · iapply (yflight_next c Y my2 _ (Ring.bk 8 (k.val + 1)) 2 _ _); iexact Hy2
    iapply (yflight_next c Y my3 _ (Ring.bk 8 (k.val + 1)) 3 _ _); iexact Hy3

end Trip
end Cert.Proof.KernelIdeal
end
-- ==== Proof.KernelIdealLoop.lean ====
/-
  The kernel's loop and body: what the trips leave in the accumulator, the loop by its invariant, and the
  whole body, which leaves in the output the value computed from the accumulator after the eight trips.
-/
module

public import proofs.«01_k».proof.Proof.KernelIdealTrip
public import Idealize.ShloMosaic.Lib.VecWindow

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## What one block adds, in each of the trip's four printed forms -/

section Step
variable (x : Vec F S512x1000 .f32) (y : Vec F S512x1 .i32) (a : Vec F S3x16 .f32)
/-- The accumulator after the block in place 0 of its trip; -/
def step0 : Vec F S3x16 .f32 := k0_pay9 (k0_pay3 x) (k0_pay4 x y) (k0_pay6 (F := F)) (k0_pay7 x) (k0_pay8 (F := F)) a
/-- in place 1; -/
def step1 : Vec F S3x16 .f32 :=
  k0_pay17 (k0_pay14 x (k0_pay11 x)) (k0_pay15 x (k0_pay11 x)) (k0_pay16 x (k0_pay10 x) (k0_pay11 x) y) a
/-- in place 2; -/
def step2 : Vec F S3x16 .f32 := k0_pay21 (k0_pay19 x) (k0_pay20 x y) a
/-- in place 3. -/
def step3 : Vec F S3x16 .f32 := k0_pay27 (k0_pay23 x) (k0_pay24 x y) (k0_pay25 x) a
end Step

section Acc
variable (c : Dev nD) (X : Buf (Elt F) (xM.view.loc (c : Thread nD τ))) (Y : Buf (Elt F) (yM.view.loc (c : Thread nD τ)))

/-- The accumulator after quad `q`'s four blocks. -/
def quadStep (q : Fin 8) (a : Vec F S3x16 .f32) : Vec F S3x16 .f32 :=
  step3 (xpay c X q 3) (ypay c Y q 3) (step2 (xpay c X q 2) (ypay c Y q 2)
    (step1 (xpay c X q 1) (ypay c Y q 1) (step0 (xpay c X q 0) (ypay c Y q 0) a)))
/-- The accumulator before trip `k`, from `a` before the loop. -/
def accAt (a : Vec F S3x16 .f32) : ℕ → Vec F S3x16 .f32
  | 0 => a
  | k + 1 => quadStep c X Y (Ring.bk 8 k) (accAt a k)
theorem accAt_succ (a : Vec F S3x16 .f32) (k : ℕ) : accAt c X Y a (k + 1) = quadStep c X Y (Ring.bk 8 k) (accAt c X Y a k) := rfl
/-- The output: computed from the accumulator after the last trip. -/
def outVal : F .f32 :=
  k0_pay1 (k0_pay30 (accAt c X Y (k0_pay26 (F := F)) 8)) (k0_pay31 (accAt c X Y (k0_pay26 (F := F)) 8)) (k0_pay32 (accAt c X Y (k0_pay26 (F := F)) 8))
end Acc

/-! ## The runs' accumulators are these -/

section Vals

omit [FloatOps F] in
theorem accM_writes (c : Dev nD) (a : Buf (Elt F) (accM.view.loc (c : Thread nD τ))) (w : Vec F S3x16 .f32) (L) :
    accM.view.writes (Elt F) a (⟨Rect.unit (s := S3x16) ![0, 0] S3x16.size inb_S3x16_S3x16_0_0, w⟩ :: L) = w :=
  View.read_writes_full accM.view a inb_S3x16_S3x16_0_0 w L
theorem acc_cov (V : View sig .tc .vmem S3x16 .f32) (w : Vec F S3x16 .f32) (L h h') :
    V.readCov (⟨Rect.unit (s := S3x16) ![0, 0] ![3, 16] h, w⟩ :: L)
      (Rect.unit (s := S3x16) ![0, 0] ![3, 16] h').toLoadRect = w := View.readCov_full V h h' w L
omit [FloatOps F] in
theorem acc_read (c : Dev nD) (a : Buf (Elt F) (accM.view.loc (c : Thread nD τ))) (h) :
    View.readAt (Elt F) (View.whole cc0_scratch0) (Rect.unit (s := S3x16) ![0, 0] ![3, 16] h).toLoadRect a = a :=
  View.readAt_full accM.view a h
theorem x_cov (V : View sig .tc .vmem S512x1000 .f32) (w : Vec F S512x1000 .f32) (L h) :
    V.readCov (⟨Rect.whole S512x1000, w⟩ :: L)
      (Rect.unit (s := S512x1000) ![0, 0] ![512, 1000] h).toLoadRect = w :=
  View.readCov_full V h (off' := fun _ => 0) (fun a => by simp) w L
theorem y_cov (V : View sig .tc .vmem S512x1 .i32) (w : Vec F S512x1 .i32) (L h) :
    V.readCov (⟨Rect.whole S512x1, w⟩ :: L)
      (Rect.unit (s := S512x1) ![0, 0] ![512, 1] h).toLoadRect = w :=
  View.readCov_full V h (off' := fun _ => 0) (fun a => by simp) w L

variable (c : Dev nD) (X : Buf (Elt F) (xM.view.loc (c : Thread nD τ))) (Y : Buf (Elt F) (yM.view.loc (c : Thread nD τ)))
  (arg2 : Memref sig .tc .smem S1 .f32) (harg2 : arg2.IsWhole) (k : Fin k0_t1_loop.trips)

theorem tripLast_val (hk) (a : Buf (Elt F) (accM.view.loc (c : Thread nD τ))) :
    (tripLast c X Y arg2 harg2 k hk a).1 = quadStep c X Y (Ring.bk 8 k.val) a := by
  unfold tripLast
  dsimp only
  refine (accM_writes c a _ _).trans ?_
  simp only [tripLast.sl.HO_1, tripLast.sl.HO_2, tripLast.sl.HO_3, tripLast.sl.r, tripLast.sl.r_1, tripLast.sl.r_2,
    tripLast.sl.r_3, tripLast.sl.r_4, tripLast.sl.r_5, tripLast.sl.r_6, tripLast.sl.r_7, tripLast.sl.r_8, tripLast.sl.r_9,
    tripLast.sl.r_10, tripLast.sl.r_11, tripLast.sl.r_12, tripLast.sl.v37, tripLast.sl.v54, tripLast.sl.v103, tripLast.sl.v120,
    tripLast.sl.v153, tripLast.sl.v169, tripLast.sl.v186, tripLast.sl.v219, tripLast.sl.v235, tripLast.sl.v252, tripLast.sl.v285,
    acc_cov, acc_read, x_cov, y_cov, quadStep, step0, step1, step2, step3]
theorem tripMid_val (hk) (a : Buf (Elt F) (accM.view.loc (c : Thread nD τ))) :
    (tripMid c X Y arg2 harg2 k hk a).1 = quadStep c X Y (Ring.bk 8 k.val) a := by
  unfold tripMid
  dsimp only
  refine (accM_writes c a _ _).trans ?_
  simp only [tripMid.sl.HO_1, tripMid.sl.HO_2, tripMid.sl.HO_3, tripMid.sl.r, tripMid.sl.r_1, tripMid.sl.r_2,
    tripMid.sl.r_3, tripMid.sl.r_4, tripMid.sl.r_5, tripMid.sl.r_6, tripMid.sl.r_7, tripMid.sl.r_8, tripMid.sl.r_9,
    tripMid.sl.r_10, tripMid.sl.r_11, tripMid.sl.r_12, tripMid.sl.v37, tripMid.sl.v54, tripMid.sl.v103, tripMid.sl.v120,
    tripMid.sl.v153, tripMid.sl.v169, tripMid.sl.v186, tripMid.sl.v219, tripMid.sl.v235, tripMid.sl.v252, tripMid.sl.v285,
    acc_cov, acc_read, x_cov, y_cov, quadStep, step0, step1, step2, step3]

/-- One trip, wherever in the loop. -/
theorem trip (a : Vec F S3x16 .f32) :
    resAt c X Y k a ⊢ wp frame (wpE (defs₀ (F := F)) 𝒱₀ (c : Thread nD τ) none) Set.univ (tripG arg2 harg2 k)
      (fun _ => resAt c X Y (k.val + 1) (quadStep c X Y (Ring.bk 8 k.val) a)) := by
  by_cases hk : k.val + 1 < 8
  · rw [← tripMid_val c X Y arg2 harg2 k hk a]; exact (tripMid c X Y arg2 harg2 k hk a).2
  · rw [← tripLast_val c X Y arg2 harg2 k hk a]; exact (tripLast c X Y arg2 harg2 k hk a).2

/-- `freeP`, each buffer with its semaphore. -/
def freeQ : sProp 𝕄 :=
  iprop((∃ f, heldP c mx0 f ∗ cellP c cc0_scratch9) ∗ (∃ f, heldP c mx1 f ∗ cellP c cc0_scratch10)
    ∗ (∃ f, heldP c mx2 f ∗ cellP c cc0_scratch11) ∗ (∃ f, heldP c mx3 f ∗ cellP c cc0_scratch12)
    ∗ (∃ f, heldP c my0 f ∗ cellP c cc0_scratch13) ∗ (∃ f, heldP c my1 f ∗ cellP c cc0_scratch14)
    ∗ (∃ f, heldP c my2 f ∗ cellP c cc0_scratch15) ∗ (∃ f, heldP c my3 f ∗ cellP c cc0_scratch16))
theorem freeP_freeQ : freeP (F := F) c ⊢ freeQ c := by
  unfold freeP freeQ
  iintro ⟨⟨%f0, Hx0⟩, ⟨%f1, Hx1⟩, ⟨%f2, Hx2⟩, ⟨%f3, Hx3⟩, ⟨%g0, Hy0⟩, ⟨%g1, Hy1⟩, ⟨%g2, Hy2⟩, ⟨%g3, Hy3⟩, Hc0, Hc1, Hc2, Hc3, Hd0, Hd1, Hd2, Hd3⟩
  isplitl [Hx0 Hc0]; · iexists _; isplitl [Hx0]; · iexact Hx0
                       iexact Hc0
  isplitl [Hx1 Hc1]; · iexists _; isplitl [Hx1]; · iexact Hx1
                       iexact Hc1
  isplitl [Hx2 Hc2]; · iexists _; isplitl [Hx2]; · iexact Hx2
                       iexact Hc2
  isplitl [Hx3 Hc3]; · iexists _; isplitl [Hx3]; · iexact Hx3
                       iexact Hc3
  isplitl [Hy0 Hd0]; · iexists _; isplitl [Hy0]; · iexact Hy0
                       iexact Hd0
  isplitl [Hy1 Hd1]; · iexists _; isplitl [Hy1]; · iexact Hy1
                       iexact Hd1
  isplitl [Hy2 Hd2]; · iexists _; isplitl [Hy2]; · iexact Hy2
                       iexact Hd2
  iexists _; isplitl [Hy3]; · iexact Hy3
  iexact Hd3
/-- `resAt`, so arranged. -/
def resQ (k : ℕ) (a : Buf (Elt F) (accM.view.loc (c : Thread nD τ))) : sProp 𝕄 :=
  iprop(heldP c accM a ∗ (∃ W, owes (c : Thread nD τ) 0 W) ∗ bigSep (Ring.homeSet 1 k) (quadP c X Y)
    ∗ if k < 8 then flightsP c X Y (Ring.bk 8 k) else freeQ c)
theorem resQ_lt (h : k.val < 8) (a) : resQ c X Y k.val a = resAt c X Y k.val a := by
  unfold resQ resAt; rw [if_pos h, if_pos h]
theorem resAt_resQ (n : ℕ) (a) : resAt (F := F) c X Y n a ⊢ resQ c X Y n a := by
  unfold resQ resAt
  iintro ⟨H1, H2, H3, H4⟩
  isplitl [H1]; · iexact H1
  isplitl [H2]; · iexact H2
  isplitl [H3]; · iexact H3
  have e : (if n < 8 then flightsP c X Y (Ring.bk 8 n) else freeP c : sProp 𝕄) ⊢ if n < 8 then flightsP c X Y (Ring.bk 8 n) else freeQ c := by
    by_cases h : n < 8
    · rw [if_pos h, if_pos h]
    · rw [if_neg h, if_neg h]; exact freeP_freeQ c
  iapply e; iexact H4

set_option warn.classDefReducibility false in
/-- The loop's invariant: before trip `k`, the accumulator at `accAt k`. -/
@[sl_loop] def loopInv (o0 : Buf (Elt F) (accM.view.loc (c : Thread nD τ))) :
    LoopInvTy_k0_t1 (F := F) Unit ℕ (UU nD τ) ℕ 𝒱₀ c none Set.univ xM (Memref.isWhole_whole _) yM (Memref.isWhole_whole _) arg2 harg2 accM (Memref.isWhole_whole _)
      mx0 (Memref.isWhole_whole _) mx1 (Memref.isWhole_whole _) mx2 (Memref.isWhole_whole _) mx3 (Memref.isWhole_whole _)
      my0 (Memref.isWhole_whole _) my1 (Memref.isWhole_whole _) my2 (Memref.isWhole_whole _) my3 (Memref.isWhole_whole _)
      cc0_scratch9 cc0_scratch10 cc0_scratch11 cc0_scratch12 cc0_scratch13 cc0_scratch14 cc0_scratch15 cc0_scratch16 where
  inv k _ := resQ c X Y k (accAt c X Y o0 k)
  step k _ := by
    rw [accAt_succ, resQ_lt c X Y k (Nat.lt_of_lt_of_eq k.isLt trips_eq)]
    iintro H
    iapply (wp_wand_r Idealize.ShloMosaic.frame (wpE (defs₀ (F := F)) 𝒱₀ (c : Thread nD τ) none) Set.univ)
    isplitl [H]
    · iapply (trip c X Y arg2 harg2 k (accAt c X Y o0 k.val)); iexact H
    · iintro %_ H'
      iapply (resAt_resQ c X Y (k.val + 1) _); iexact H'

end Vals

/-! ## The body -/

section Body
variable (c : Dev nD) (X : Buf (Elt F) (xM.view.loc (c : Thread nD τ))) (Y : Buf (Elt F) (yM.view.loc (c : Thread nD τ)))
  (arg2 : Memref sig .tc .smem S1 .f32) (harg2 : arg2.IsWhole)

abbrev bodyG : Prog (TpuEff nD τ sig (Elt F) Λ₀ .tc) PUnit :=
  cc0__ece_kernel (F := F) xM (Memref.isWhole_whole _) yM (Memref.isWhole_whole _) arg2 harg2 accM (Memref.isWhole_whole _)
    mx0 (Memref.isWhole_whole _) mx1 (Memref.isWhole_whole _) mx2 (Memref.isWhole_whole _) mx3 (Memref.isWhole_whole _)
    my0 (Memref.isWhole_whole _) my1 (Memref.isWhole_whole _) my2 (Memref.isWhole_whole _) my3 (Memref.isWhole_whole _)
    cc0_scratch9 cc0_scratch10 cc0_scratch11 cc0_scratch12 cc0_scratch13 cc0_scratch14 cc0_scratch15 cc0_scratch16

theorem quads_zero :
    bigSep Finset.univ (quadP c X Y) = iprop(quadP c X Y 0 ∗ bigSep (Ring.homeSet 1 0) (quadP c X Y)) := by
  have e : (Finset.univ : Finset (Fin 8)) = insert 0 (Ring.homeSet (NB := 8) 1 0) := by
    ext b; simp only [Finset.mem_univ, Finset.mem_insert, Ring.mem_homeSet, true_iff, Fin.ext_iff]; have := b.isLt; omega
  rw [e, bigSep_insert (by simp [Ring.mem_homeSet])]; rfl

/-- What the body is handed besides the output's buffer and the core's waits, and hands back. -/
def stateP : sProp 𝕄 := iprop(bigSep Finset.univ (quadP c X Y) ∗ (∃ f, heldP c accM f) ∗ freeP c)
/-- What it leaves: the output's word at `outVal`. -/
def bodyPost : sProp 𝕄 :=
  iprop((∃ f, ⌜arg2.view.read (Elt F) f = fun _ => outVal c X Y⌝ ∗ heldP c arg2 f) ∗ stateP c X Y ∗ ∃ W, owes (c : Thread nD τ) 0 W)

theorem freeQ_freeP : freeQ (F := F) c ⊢ freeP c := by
  unfold freeP freeQ
  iintro ⟨⟨%f0, Hx0, Hc0⟩, ⟨%f1, Hx1, Hc1⟩, ⟨%f2, Hx2, Hc2⟩, ⟨%f3, Hx3, Hc3⟩, ⟨%g0, Hy0, Hd0⟩, ⟨%g1, Hy1, Hd1⟩, ⟨%g2, Hy2, Hd2⟩, ⟨%g3, Hy3, Hd3⟩⟩
  isplitl [Hx0]; · iexists _; iexact Hx0
  isplitl [Hx1]; · iexists _; iexact Hx1
  isplitl [Hx2]; · iexists _; iexact Hx2
  isplitl [Hx3]; · iexists _; iexact Hx3
  isplitl [Hy0]; · iexists _; iexact Hy0
  isplitl [Hy1]; · iexists _; iexact Hy1
  isplitl [Hy2]; · iexists _; iexact Hy2
  isplitl [Hy3]; · iexists _; iexact Hy3
  isplitl [Hc0]; · iexact Hc0
  isplitl [Hc1]; · iexact Hc1
  isplitl [Hc2]; · iexact Hc2
  isplitl [Hc3]; · iexact Hc3
  isplitl [Hd0]; · iexact Hd0
  isplitl [Hd1]; · iexact Hd1
  isplitl [Hd2]; · iexact Hd2
  iexact Hd3

omit [FloatOps F] in
theorem acc_write (w : Vec F S3x16 .f32) (a : Buf (Elt F) (accM.view.loc (c : Thread nD τ))) :
    View.write (Elt F) (accM.view.slice (Rect.unit (s := S3x16) ![0, 0] S3x16.size inb_S3x16_S3x16_0_0)) a w Finset.univ = w :=
  accM_writes c a w []

theorem outVal_eq :
    (fun (v : Vec F S3x16 .f32) => k0_pay1 (k0_pay30 v) (k0_pay31 v) (k0_pay32 v)) (accM.view.readAt (Elt F) (Rect.unit (s := S3x16) ![0, 0] S3x16.size inb_S3x16_S3x16_0_0).toLoadRect
      (accAt c X Y (View.write (Elt F) (accM.view.slice (⟨Rect.unit (s := S3x16) ![0, 0] S3x16.size inb_S3x16_S3x16_0_0, k0_pay26 (F := F)⟩ : Σ r : Rect S3x16, r.shape.Idx → Elt F .f32).fst)
        (accM.view.writes (Elt F) accM.view.junk []) (⟨Rect.unit (s := S3x16) ![0, 0] S3x16.size inb_S3x16_S3x16_0_0, k0_pay26 (F := F)⟩ : Σ r : Rect S3x16, r.shape.Idx → Elt F .f32).snd Finset.univ)
        (Scf.trips k0_t1_loop.lb k0_t1_loop.ub k0_t1_loop.st))) = outVal c X Y := by
  have e : Scf.trips k0_t1_loop.lb k0_t1_loop.ub k0_t1_loop.st = 8 := trips_eq
  rw [e, acc_read c]
  dsimp only
  unfold outVal
  rw [acc_write c]

theorem body_wp (gO : Buf (Elt F) (arg2.view.loc (c : Thread nD τ))) (W : Waits sig Unit) :
    iprop(heldP c arg2 gO ∗ stateP c X Y ∗ owes (c : Thread nD τ) 0 W)
      ⊢ wp frame (wpE (defs₀ (F := F)) 𝒱₀ (c : Thread nD τ) none) Set.univ (bodyG arg2 harg2) (fun _ => bodyPost c X Y arg2) := by
  unfold stateP
  rw [quads_zero]
  iintro ⟨HO, ⟨⟨Hq, Hrest⟩, Ha, Hfree⟩, HW⟩
  unfold quadP freeP
  icases Hq with ⟨⟨Hq0, Hq1, Hq2, Hq3⟩, ⟨Hp0, Hp1, Hp2, Hp3⟩⟩
  icases Ha with ⟨%a, HA⟩
  icases Hfree with ⟨⟨%f0, Hx0⟩, ⟨%f1, Hx1⟩, ⟨%f2, Hx2⟩, ⟨%f3, Hx3⟩, ⟨%g0, Hy0⟩, ⟨%g1, Hy1⟩, ⟨%g2, Hy2⟩, ⟨%g3, Hy3⟩, Hc0, Hc1, Hc2, Hc3, Hd0, Hd1, Hd2, Hd3⟩
  sl_exec
  sl_step
  unfold bodyPost
  isplitl [HO]
  · iexists _
    isplitr
    rotate_left
    · iexact HO
    · ipureintro
      refine (View.read_writes_full arg2.view gO inb_S1_S1_0 _ []).trans ?_
      funext _
      exact outVal_eq c X Y
  isplitr [HW]
  · unfold stateP
    isplitl [Hrest]
    · have e : Scf.trips k0_t1_loop.lb k0_t1_loop.ub k0_t1_loop.st = 8 := trips_eq
      rw [e, Ring.homeSet_last 1 8 (by omega)]
      iexact Hrest
    isplitl [HA]; · iexists _; iexact HA
    iapply (freeQ_freeP c)
    unfold freeQ
    isplitl [Hc0]; · iexists _; iexact Hc0
    isplitl [Hc1]; · iexists _; iexact Hc1
    isplitl [Hc2]; · iexists _; iexact Hc2
    isplitl [Hc3]; · iexists _; iexact Hc3
    isplitl [Hd0]; · iexists _; iexact Hd0
    isplitl [Hd1]; · iexists _; iexact Hd1
    isplitl [Hd2]; · iexists _; iexact Hd2
    iexists _; iexact Hd3
  · iexists _; iexact HW

theorem bodyRun (gO : Buf (Elt F) (arg2.view.loc (c : Thread nD τ))) (W : Waits sig Unit) (Q : PUnit → sProp 𝕄) :
    iprop((heldP c arg2 gO ∗ stateP c X Y ∗ owes (c : Thread nD τ) 0 W) ∗ (bodyPost c X Y arg2 -∗ Q ⟨⟩))
      ⊢ wp frame (wpE (defs₀ (F := F)) 𝒱₀ (c : Thread nD τ) none) Set.univ (bodyG arg2 harg2) Q := by
  iintro ⟨H, Hk⟩
  iapply (wp_wand_r Idealize.ShloMosaic.frame (wpE (defs₀ (F := F)) 𝒱₀ (c : Thread nD τ) none) Set.univ)
  isplitl [H]
  · iapply (body_wp c X Y arg2 harg2 gO W); iexact H
  · iintro %_ H'
    iapply Hk; iexact H'

end Body
end Cert.Proof.KernelIdeal
end
-- ==== Proof.KernelIdealRun.lean ====
/-
  The kernel launched: from any memory with zero counters every execution ends with the arguments
  unchanged, the counters at zero and the result at the body's value of the two inputs.
-/
module

public import proofs.«01_k».proof.Proof.KernelIdealLoop
public import Idealize.ShloMosaic.Init

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The logits, and the labels as the host operation before the launch lays them out. -/
abbrev XA (c : Dev nD) : Buf (Elt F) (xM.view.loc (c : Thread nD τ)) := V m c main_arg0
abbrev YA (c : Dev nD) : Buf (Elt F) (yM.view.loc (c : Thread nD τ)) := V m c main_call0_v0

abbrev osems : Fin 8 → DmaSems sig S_ :=
  ![cc0_scratch9, cc0_scratch10, cc0_scratch11, cc0_scratch12, cc0_scratch13, cc0_scratch14, cc0_scratch15, cc0_scratch16]
abbrev osem : Fin 8 → SemLoc sig := fun s => .dma (osems s).sem
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-! ## The inputs as their blocks -/

abbrev GX (b : Fin 8 × Fin 4) : Finset S16384x1000.Idx := (Rect.unit (s := S16384x1000) (blkOff b.1 b.2) S512x1000.size (xOff_inb b.1 b.2)).set
abbrev GY (b : Fin 8 × Fin 4) : Finset S16384x1.Idx := (Rect.unit (s := S16384x1) (blkOff b.1 b.2) S512x1.size (yOff_inb b.1 b.2)).set

theorem mem_GX (b : Fin 8 × Fin 4) (y : S16384x1000.Idx) : y ∈ GX b ↔ (y 0).val / 512 = 4 * b.1.val + b.2.val := by
  rw [Rect.mem_set_unit]
  have h1 : (y 1).val < 1000 := (y 1).isLt
  constructor
  · intro H; have a0 : 2048 * b.1.val + 512 * b.2.val ≤ (y 0).val ∧ (y 0).val < 2048 * b.1.val + 512 * b.2.val + 512 := H 0; omega
  · intro H i; fin_cases i
    · show 2048 * b.1.val + 512 * b.2.val ≤ (y 0).val ∧ (y 0).val < 2048 * b.1.val + 512 * b.2.val + 512; omega
    · show 0 ≤ (y 1).val ∧ (y 1).val < 0 + 1000; omega
theorem mem_GY (b : Fin 8 × Fin 4) (y : S16384x1.Idx) : y ∈ GY b ↔ (y 0).val / 512 = 4 * b.1.val + b.2.val := by
  rw [Rect.mem_set_unit]
  have h1 : (y 1).val < 1 := (y 1).isLt
  constructor
  · intro H; have a0 : 2048 * b.1.val + 512 * b.2.val ≤ (y 0).val ∧ (y 0).val < 2048 * b.1.val + 512 * b.2.val + 512 := H 0; omega
  · intro H i; fin_cases i
    · show 2048 * b.1.val + 512 * b.2.val ≤ (y 0).val ∧ (y 0).val < 2048 * b.1.val + 512 * b.2.val + 512; omega
    · show 0 ≤ (y 1).val ∧ (y 1).val < 0 + 1; omega
/-- Two places with one number are one. -/
theorem place_ext (b b' : Fin 8 × Fin 4) (h : 4 * b.1.val + b.2.val = 4 * b'.1.val + b'.2.val) : b = b' := by
  have h1 := b.2.isLt; have h2 := b'.2.isLt
  exact Prod.ext (Fin.ext (by omega)) (Fin.ext (by omega))
theorem GX_disjoint : ∀ b b' : Fin 8 × Fin 4, b ≠ b' → Disjoint (GX b) (GX b') := by
  intro b b' hne; rw [Finset.disjoint_left]; intro y hy hy'; rw [mem_GX] at hy hy'; exact hne (place_ext b b' (hy.symm.trans hy'))
theorem GY_disjoint : ∀ b b' : Fin 8 × Fin 4, b ≠ b' → Disjoint (GY b) (GY b') := by
  intro b b' hne; rw [Finset.disjoint_left]; intro y hy hy'; rw [mem_GY] at hy hy'; exact hne (place_ext b b' (hy.symm.trans hy'))
theorem GX_cover : (Finset.univ : Finset (Fin 8 × Fin 4)).biUnion GX = Finset.univ := by
  ext y; simp only [Finset.mem_biUnion, Finset.mem_univ, true_and, iff_true]
  have h0 : (y 0).val < 16384 := (y 0).isLt
  exact ⟨(⟨(y 0).val / 2048, by omega⟩, ⟨(y 0).val / 512 % 4, by omega⟩), by rw [mem_GX]; dsimp only; omega⟩
theorem GY_cover : (Finset.univ : Finset (Fin 8 × Fin 4)).biUnion GY = Finset.univ := by
  ext y; simp only [Finset.mem_biUnion, Finset.mem_univ, true_and, iff_true]
  have h0 : (y 0).val < 16384 := (y 0).isLt
  exact ⟨(⟨(y 0).val / 2048, by omega⟩, ⟨(y 0).val / 512 % 4, by omega⟩), by rw [mem_GY]; dsimp only; omega⟩

theorem xblk_set (b : Fin 8 × Fin 4) : (xblk b.1 b.2).view.set = GX b := View.set_slice_whole _ _
theorem yblk_set (b : Fin 8 × Fin 4) : (yblk b.1 b.2).view.set = GY b := View.set_slice_whole _ _

theorem x_eq (c : Dev nD) (X : Buf (Elt F) (xM.view.loc (c : Thread nD τ))) :
    (((c : Thread nD τ).loc main_arg0) ↦{fullShare} X : sProp 𝕄) = bigSep Finset.univ fun q => iprop(xhome c X q 0 ∗ xhome c X q 1 ∗ xhome c X q 2 ∗ xhome c X q 3) := by
  rw [Ring.pointsTo_blocks (ℓ := (c : Thread nD τ).loc main_arg0) GX GX_disjoint GX_cover, bigSep_univ_prod]
  refine bigSep_congr fun q _ => ?_
  rw [bigSep_fin4, ← xblk_set, ← xblk_set, ← xblk_set, ← xblk_set]; rfl
theorem y_eq (c : Dev nD) (Y : Buf (Elt F) (yM.view.loc (c : Thread nD τ))) :
    (((c : Thread nD τ).loc main_call0_v0) ↦{fullShare} Y : sProp 𝕄) = bigSep Finset.univ fun q => iprop(yhome c Y q 0 ∗ yhome c Y q 1 ∗ yhome c Y q 2 ∗ yhome c Y q 3) := by
  rw [Ring.pointsTo_blocks (ℓ := (c : Thread nD τ).loc main_call0_v0) GY GY_disjoint GY_cover, bigSep_univ_prod]
  refine bigSep_congr fun q _ => ?_
  rw [bigSep_fin4, ← yblk_set, ← yblk_set, ← yblk_set, ← yblk_set]; rfl
theorem quads_eq (c : Dev nD) (X : Buf (Elt F) (xM.view.loc (c : Thread nD τ))) (Y : Buf (Elt F) (yM.view.loc (c : Thread nD τ))) :
    bigSep Finset.univ (quadP c X Y) = iprop((((c : Thread nD τ).loc main_arg0) ↦{fullShare} X) ∗ (((c : Thread nD τ).loc main_call0_v0) ↦{fullShare} Y)) := by
  rw [x_eq, y_eq]
  exact bigSep_sep _ _ _

theorem ownSems0_eq (c : Dev nD) : (Pipeline.ownSems0 (Ix := Unit) (Name := ℕ) (U := UU nD τ) (Lvl := ℕ) (Val := Elt F) (τ := τ) osem c : sProp 𝕄)
    = iprop(cellP c cc0_scratch9 ∗ cellP c cc0_scratch10 ∗ cellP c cc0_scratch11 ∗ cellP c cc0_scratch12
      ∗ cellP c cc0_scratch13 ∗ cellP c cc0_scratch14 ∗ cellP c cc0_scratch15 ∗ cellP c cc0_scratch16) := by
  unfold Pipeline.ownSems0; rw [bigSep_fin8]; rfl

/-- A scratch buffer whole is it held. -/
theorem held_whole (c : Dev nD) (b : Ref sig .tc) (f : Buf (Elt F) ((Memref.whole b).view.loc (c : Thread nD τ))) :
    (heldP c (Memref.whole b) f : sProp 𝕄) = (((c : Thread nD τ).loc b) ↦{fullShare} f) := by
  show (_ ↦[(View.whole b).set]{fullShare} f : sProp 𝕄) = _
  rw [View.set_whole]

theorem held_in (c : Dev nD) (b : Ref sig .tc) :
    iprop(∃ f : Buf (Elt F) ((c : Thread nD τ).loc b), ((c : Thread nD τ).loc b) ↦{fullShare} f) ⊢ (iprop(∃ f, heldP c (Memref.whole b) f) : sProp 𝕄) := by
  iintro ⟨%f, H⟩; iexists f; iapply (Entails.of_eq (held_whole c b f).symm); iexact H
theorem held_out (c : Dev nD) (b : Ref sig .tc) :
    (iprop(∃ f, heldP c (Memref.whole b) f) : sProp 𝕄) ⊢ iprop(∃ f : Buf (Elt F) ((c : Thread nD τ).loc b), ((c : Thread nD τ).loc b) ↦{fullShare} f) := by
  iintro ⟨%f, H⟩; iexists f; iapply (Entails.of_eq (held_whole c b f)); iexact H

/-! ## The pipeline's proof data -/

abbrev st0 (t : Fin cfg0.N) : Memref sig .tc .smem S1 .f32 := win0_0.stage (cfg0.slots t 0)
abbrev hst0 (t : Fin cfg0.N) : (st0 t).IsWhole := hstage0_0 0

def Φ (c : Dev nD) : sProp 𝕄 := stateP c (XA m c) (YA m c)

/-- What the body leaves in the result's staging buffer. -/
def outAt (c : Dev nD) : (cfg0.win 0).block.Idx → Elt F (cfg0.win 0).elt := fun _ => outVal c (XA m c) (YA m c)

def dats (_ : Fin 1) (c : Dev nD) : Dat τ (Elt F) Unit ℕ (UU nD τ) ℕ cfg0 c where
  A w := V m c (Pipeline.arrRef spec0 w)
  after w t := match w with
    | ⟨0, _⟩ => outAt m c
  Φ _ := Φ m c
  q _ := fullShare
  owed _ := 0

theorem after_w0 (c : Dev nD) (t : Fin cfg0.N) : (dats m 0 c).after 0 t = outAt m c := by dsimp only [dats]

/-! ## The body obligation -/

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨HΦ, ⟨%W, -, HW⟩, ⟨%d0, %gO, -, HO⟩⟩
  sl_rw [prog_eq t]
  iapply (bodyRun c (XA m c) (YA m c) (st0 t) (hst0 t) gO W)
  isplitl [HΦ HO HW]
  · isplitl [HO]; · iexact HO
    isplitl [HΦ]; · iexact HΦ
    iexact HW
  · unfold bodyPost
    iintro ⟨⟨%f, %hf, HO⟩, HΦ, ⟨%W', HW⟩⟩
    isplitl [HΦ]; · iexact HΦ
    isplitl [HW]
    · iexists W'; isplitr; · ipureintro; exact fun _ _ => Or.inl trivial
      iexact HW
    iexists f; isplitr; · ipureintro; exact hf
    iexact HO

/-! ## The run -/

def intoΦ (c : Dev nD) : sProp 𝕄 := iprop(bigSep Finset.univ (quadP c (XA m c) (YA m c)) ∗ Pipeline.ownSems0 osem c)
def outOfΦ (c : Dev nD) : sProp 𝕄 := ((c : Thread nD τ).loc main_arg0) ↦{fullShare} m ((c : Thread nD τ).loc main_arg0)
def aside (c : Dev nD) : sProp 𝕄 := ((c : Thread nD τ).loc main_arg1) ↦{fullShare} m ((c : Thread nD τ).loc main_arg1)
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

/-- What the launch hands the kernel is the invariant, -/
theorem into (c : Dev nD) : iprop(intoΦ m c ∗ Pipeline.scopedRest spec0 c) ⊢ (dats m 0 c).Φ 0 := by
  rw [scopedRest0_eq, show (dats m 0 c).Φ 0 = Φ m c from rfl]
  unfold intoΦ Φ stateP freeP; rw [ownSems0_eq]
  iintro ⟨⟨H0, Hc⟩, ⟨Ha, Hb⟩⟩
  isplitl [H0]; · iexact H0
  isplitl [Ha]; · iapply (held_in c cc0_scratch0); iexact Ha
  icases Hb with ⟨H1, H2, H3, H4, H5, H6, H7, H8⟩
  isplitl [H1]; · iapply (held_in c cc0_scratch1); iexact H1
  isplitl [H2]; · iapply (held_in c cc0_scratch2); iexact H2
  isplitl [H3]; · iapply (held_in c cc0_scratch3); iexact H3
  isplitl [H4]; · iapply (held_in c cc0_scratch4); iexact H4
  isplitl [H5]; · iapply (held_in c cc0_scratch5); iexact H5
  isplitl [H6]; · iapply (held_in c cc0_scratch6); iexact H6
  isplitl [H7]; · iapply (held_in c cc0_scratch7); iexact H7
  isplitl [H8]; · iapply (held_in c cc0_scratch8); iexact H8
  iexact Hc
/-- and back. -/
theorem outof (c : Dev nD) : (dats m 0 c).Φ (Fin.last cfg0.N) ⊢ iprop(outOfΦ m c ∗ Pipeline.ownSems0 osem c ∗ Pipeline.scopedRest spec0 c) := by
  rw [scopedRest0_eq, show (dats m 0 c).Φ (Fin.last cfg0.N) = Φ m c from rfl, ownSems0_eq]
  unfold Φ outOfΦ stateP freeP
  rw [quads_eq, show XA m c = m ((c : Thread nD τ).loc main_arg0) from V_main_arg0 m c]
  iintro ⟨⟨H0, -⟩, Ha, H1, H2, H3, H4, H5, H6, H7, H8, Hc⟩
  isplitl [H0]; · iexact H0
  isplitl [Hc]; · iexact Hc
  isplitl [Ha]; · iapply (held_out c cc0_scratch0); iexact Ha
  isplitl [H1]; · iapply (held_out c cc0_scratch1); iexact H1
  isplitl [H2]; · iapply (held_out c cc0_scratch2); iexact H2
  isplitl [H3]; · iapply (held_out c cc0_scratch3); iexact H3
  isplitl [H4]; · iapply (held_out c cc0_scratch4); iexact H4
  isplitl [H5]; · iapply (held_out c cc0_scratch5); iexact H5
  isplitl [H6]; · iapply (held_out c cc0_scratch6); iexact H6
  isplitl [H7]; · iapply (held_out c cc0_scratch7); iexact H7
  iapply (held_out c cc0_scratch8); iexact H8

set_option backward.isDefEq.respectTransparency.types false in
/-- For any float values, from any memory with zero counters: every weakly fair execution terminates, and every final
    state has the result at the computed contents, both arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := aside m)
    (hX := fun c => by
      rw [unscopedRest0_eq]
      unfold intoΦ aside
      rw [quads_eq, V_main_arg1]
      iintro ⟨⟨H0, H1, H2⟩, HS, -⟩; imodintro
      isplitr [H1]
      · isplitr [HS]
        · isplitl [H0]; · iexact H0
          iexact H2
        iexact HS
      iexact H1)
    (hin := into m) (hout := outof m)
    (QY := QY m)
    (hY := fun c s' => by
      unfold outOfΦ aside
      iintro ⟨H0, H1, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨hh, hz⟩)

/-- The run at the arguments: unchanged, with the counters at zero; and the result's every word at the body's value. -/
theorem run_args : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1))
    ∧ r.2.sem = fun _ => 0) :=
  (θ_run defs _ _).mono (fun _ hh => ⟨fun c => (hh.1 c).2, hh.2⟩) (run_main m ρ)

end Cert.Proof.KernelIdeal
end
-- ==== Proof.KernelFrame.lean ====
/-
  The kernel as printed is the same program as its ideal reading: the run proved of the one, at
  any floats, is the run of the other at the machine's.
-/
module

public import proofs.«01_k».proof.Defs
public import proofs.«01_k».proof.Proof.KernelIdealRun
public import proofs.«01_k».proof.Proof.Gen.Kernel
public import proofs.«01_k».proof.Proof.Gen.KernelIdeal

@[expose] public section

set_option maxRecDepth 16384

noncomputable section

namespace Cert.Proof

open Idealize.ShloMosaic Idealize.ShloMosaic.TcCoe
open Idealize.SL.Sem

/-- The two programs name the same buffers and semaphores, -/
theorem sig_same : Cert.Kernel.sig = Cert.KernelIdeal.sig := by rfl

/-- the same body behind the launch, -/
theorem defs₀_same : Cert.Kernel.defs₀ (F := Bits) = Cert.KernelIdeal.defs₀ (F := Bits) := by
  unfold Cert.Kernel.defs₀ Cert.KernelIdeal.defs₀
  congr 1
  funext l a
  match l, a with
  | 0, (t, s) => rfl

/-- the same launch, -/
theorem defs_same : Cert.Kernel.defs (F := Bits) = Cert.KernelIdeal.defs (F := Bits) := by
  unfold Cert.Kernel.defs Cert.KernelIdeal.defs
  exact congrArg (Pipeline.defs Cert.KernelIdeal.pcfgs) defs₀_same

/-- and the same program around it. -/
theorem main_same : Cert.Kernel.main (F := Bits) = Cert.KernelIdeal.main (F := Bits) := by rfl

/-- Every execution of the kernel as printed ends, with the arguments unchanged and the counters at zero. -/
theorem frame_kernel : Cert.quiescent_Kernel (hKernel := Cert.Kernel.Gen.facts) := by
  intro m g _
  have h := KernelIdeal.run_args (F := Bits) m g
  have e : θ_run (Cert.Kernel.defs (F := Bits)) (onTc (τ := Cert.Kernel.τ) (Cert.Kernel.main (F := Bits)))
      = θ_run (Cert.KernelIdeal.defs (F := Bits)) (onTc (τ := Cert.KernelIdeal.τ) (Cert.KernelIdeal.main (F := Bits))) :=
    congrArg₂ (fun d p => θ_run d (onTc (τ := Cert.KernelIdeal.τ) p)) defs_same main_same
  rw [e]
  exact h

/-- Every execution of its ideal reading does. -/
theorem frame_ideal : Cert.quiescent_KernelIdeal (hKernelIdeal := Cert.KernelIdeal.Gen.facts) :=
  fun m g _ => KernelIdeal.run_args (F := Ideal) m g

end Cert.Proof
end
-- ==== Proof.HostLine.lean ====
/-
  A straight line of host operations in which every value has a buffer of its own, numbered in
  program order: what the buffers hold at the end satisfies every operation's equation at once.
-/
module

public import Idealize.ShloMosaic.Lib.StableHlo.Run

@[expose] public section

noncomputable section

namespace Cert.Proof.HostLine

open Idealize.ShloMosaic Idealize.ShloMosaic.StableHlo

variable {τ : Topo} {sig : RefSig} {Val : EltTy → Type}

/-- `op` writes the one buffer numbered `n`, touches none numbered higher, and run twice gives
    what it gives run once. -/
def Good (n : Nat) (op : HloOp τ sig Val) : Prop :=
  ∃ y : Ref sig .tc, y.idx.val = n ∧ op.writes = {Proc.devRef .tc y}
    ∧ (∀ b ∈ op.bufs, ∃ x : Ref sig .tc, x.idx.val ≤ n ∧ b = Proc.devRef .tc x)
    ∧ (∀ V, op.result (op.result V) = op.result V) ∧ op.fresh = ∅

/-- The operations write the buffers numbered `n`, `n + 1`, … in order. -/
def Chain : Nat → List (HloOp τ sig Val) → Prop
  | _, [] => True
  | n, op :: ops => Good n op ∧ Chain (n + 1) ops

theorem Chain.append {n k : Nat} {l₁ l₂ : List (HloOp τ sig Val)} (h₁ : Chain n l₁) (hk : n + l₁.length = k)
    (h₂ : Chain k l₂) : Chain n (l₁ ++ l₂) := by
  induction l₁ generalizing n with
  | nil => simpa [← hk] using h₂
  | cons op l ih => exact ⟨h₁.1, ih h₁.2 (by rw [← hk, List.length_cons]; omega)⟩

/-- Each operation of a chain is good at its own number, at least the first one. -/
theorem Chain.good {n : Nat} {ops : List (HloOp τ sig Val)} (h : Chain n ops) {op : HloOp τ sig Val} (ho : op ∈ ops) :
    ∃ k, n ≤ k ∧ Good k op := by
  induction ops generalizing n with
  | nil => cases ho
  | cons o l ih =>
    rcases List.mem_cons.mp ho with rfl | ho
    · exact ⟨n, le_rfl, h.1⟩
    · obtain ⟨k, hk, hg⟩ := ih h.2 ho
      exact ⟨k, by omega, hg⟩

/-- A buffer numbered below the chain keeps its contents. -/
theorem Chain.below {n : Nat} {ops : List (HloOp τ sig Val)} (h : Chain n ops) (V : Valuation τ sig Val)
    {x : Ref sig .tc} (hx : x.idx.val < n) : after ops V (Proc.devRef .tc x) = V (Proc.devRef .tc x) :=
  after_of_forall_not_mem ops V fun op ho hb => by
    obtain ⟨k, hk, y, hy, hw, -⟩ := h.good ho
    rw [hw, Finset.mem_singleton] at hb
    rw [Proc.devRef_injective _ hb] at hx
    omega

/-- At the end of a chain every operation's equation holds. -/
theorem Chain.fixed {n : Nat} {ops : List (HloOp τ sig Val)} (h : Chain n ops) (V : Valuation τ sig Val) :
    ∀ op ∈ ops, op.result (after ops V) = after ops V := by
  induction ops generalizing n V with
  | nil => intro op ho; cases ho
  | cons o l ih =>
    intro op ho
    rcases List.mem_cons.mp ho with rfl | ho
    · obtain ⟨y, hy, hw, hb, hi, -⟩ := h.1
      have hag : ∀ b ∈ op.bufs, after l (op.result V) b = op.result V b := fun b hm => by
        obtain ⟨x, hx, rfl⟩ := hb b hm
        exact Chain.below h.2 _ (by omega)
      rw [after_cons]
      funext b
      by_cases hm : b ∈ op.writes
      · have hm' := op.writes_sub hm
        rw [op.result_congr hag b hm', hi V, hag b hm']
      · exact op.result_of_not_mem _ hm
    · exact ih h.2 (o.result V) op ho

theorem Chain.bufs_sub {n : Nat} {ops : List (HloOp τ sig Val)} (h : Chain n ops) :
    ops.Forall fun op => op.bufs ⊆ tcRefs τ sig :=
  List.forall_iff_forall_mem.mpr fun op ho b hb => by
    obtain ⟨k, -, y, -, -, hs, -⟩ := h.good ho
    obtain ⟨x, -, rfl⟩ := hs b hb
    exact devRef_mem_tcRefs x

theorem Chain.fresh {n : Nat} {ops : List (HloOp τ sig Val)} (h : Chain n ops) : ∀ op ∈ ops, op.fresh = ∅ :=
  fun op ho => by
    obtain ⟨k, -, y, -, -, -, -, hf⟩ := h.good ho
    exact hf

/-! ## The builders are good -/

section Builders

variable {T Ta Tb Tc Te : BufTy}

theorem idem {op : HloOp τ sig Val} {y : Ref sig .tc} (hw : op.writes = {Proc.devRef .tc y})
    (h : ∀ V, op.result (op.result V) (Proc.devRef .tc y) = op.result V (Proc.devRef .tc y)) (V : Valuation τ sig Val) :
    op.result (op.result V) = op.result V := by
  funext b
  by_cases hb : b ∈ op.writes
  · rw [hw, Finset.mem_singleton] at hb; rw [hb]; exact h V
  · rw [op.result_of_not_mem _ hb]

theorem ne_of_idx {x y : Ref sig .tc} (h : x.idx.val < y.idx.val) : x ≠ y := fun e => by rw [e] at h; omega

theorem good_nullary {n : Nat} (y : TRef sig T) (v : T.Contents Val) (hy : y.ref.idx.val = n) :
    Good n (TRef.nullary y v : HloOp τ sig Val) := by
  refine ⟨y.ref, hy, nullary_writes _ _ _, fun b hb => ?_, idem (nullary_writes _ _ _) fun V => ?_, rfl⟩
  · rw [nullary_bufs, Finset.mem_singleton] at hb
    exact ⟨y.ref, hy.le, hb⟩
  · rw [nullary_result, nullary_result]

theorem good_unary {n : Nat} (x : TRef sig Ta) (y : TRef sig T) (f : Ta.Contents Val → T.Contents Val)
    (hy : y.ref.idx.val = n) (hx : x.ref.idx.val < n) : Good n (TRef.unary x y f : HloOp τ sig Val) := by
  subst hy
  refine ⟨y.ref, rfl, unary_writes _ _ _ _ _, fun b hb => ?_, idem (unary_writes _ _ _ _ _) fun V => ?_, rfl⟩
  · rw [unary_bufs, Finset.mem_insert, Finset.mem_singleton] at hb
    rcases hb with hb | hb
    · exact ⟨x.ref, hx.le, hb⟩
    · exact ⟨y.ref, le_rfl, hb⟩
  · rw [unary_result, unary_result, unary_result_ne _ _ _ _ _ _ (ne_of_idx hx)]

theorem good_reshape {n : Nat} (x : TRef sig Ta) (y : TRef sig T) (he : Ta.elt = T.elt) (hn : Ta.shape.ShapeCasts T.shape)
    (hy : y.ref.idx.val = n) (hx : x.ref.idx.val < n) : Good n (TRef.reshape x y he hn : HloOp τ sig Val) := by
  subst hy
  refine ⟨y.ref, rfl, reshape_writes _ _ _ _ _ _, fun b hb => ?_, idem (reshape_writes _ _ _ _ _ _) fun V => ?_, rfl⟩
  · rw [reshape_bufs, Finset.mem_insert, Finset.mem_singleton] at hb
    rcases hb with hb | hb
    · exact ⟨x.ref, hx.le, hb⟩
    · exact ⟨y.ref, le_rfl, hb⟩
  · rw [reshape_result, reshape_result, reshape_result_ne _ _ _ _ _ _ _ (ne_of_idx hx)]

theorem good_binary {n : Nat} (a : TRef sig Ta) (b : TRef sig Tb) (y : TRef sig T)
    (f : Ta.Contents Val → Tb.Contents Val → T.Contents Val)
    (hy : y.ref.idx.val = n) (ha : a.ref.idx.val < n) (hb : b.ref.idx.val < n) :
    Good n (TRef.binary a b y f : HloOp τ sig Val) := by
  subst hy
  refine ⟨y.ref, rfl, binary_writes _ _ _ _ _ _ _, fun d hd => ?_, idem (binary_writes _ _ _ _ _ _ _) fun V => ?_, rfl⟩
  · rw [binary_bufs, Finset.mem_insert, Finset.mem_insert, Finset.mem_singleton] at hd
    rcases hd with hd | hd | hd
    · exact ⟨a.ref, ha.le, hd⟩
    · exact ⟨b.ref, hb.le, hd⟩
    · exact ⟨y.ref, le_rfl, hd⟩
  · rw [binary_result, binary_result, binary_result_ne _ _ _ _ _ _ _ _ (ne_of_idx ha),
      binary_result_ne _ _ _ _ _ _ _ _ (ne_of_idx hb)]

theorem good_ternary {n : Nat} (c : TRef sig Tc) (a : TRef sig Ta) (b : TRef sig Tb) (y : TRef sig T)
    (f : Tc.Contents Val → Ta.Contents Val → Tb.Contents Val → T.Contents Val)
    (hy : y.ref.idx.val = n) (hc : c.ref.idx.val < n) (ha : a.ref.idx.val < n) (hb : b.ref.idx.val < n) :
    Good n (TRef.ternary c a b y f : HloOp τ sig Val) := by
  subst hy
  refine ⟨y.ref, rfl, ternary_writes _ _ _ _ _ _ _ _ _, fun d hd => ?_, idem (ternary_writes _ _ _ _ _ _ _ _ _) fun V => ?_, rfl⟩
  · rw [ternary_bufs, Finset.mem_insert, Finset.mem_insert, Finset.mem_insert, Finset.mem_singleton] at hd
    rcases hd with hd | hd | hd | hd
    · exact ⟨c.ref, hc.le, hd⟩
    · exact ⟨a.ref, ha.le, hd⟩
    · exact ⟨b.ref, hb.le, hd⟩
    · exact ⟨y.ref, le_rfl, hd⟩
  · rw [ternary_result, ternary_result, ternary_result_ne _ _ _ _ _ _ _ _ _ _ (ne_of_idx hc),
      ternary_result_ne _ _ _ _ _ _ _ _ _ _ (ne_of_idx ha), ternary_result_ne _ _ _ _ _ _ _ _ _ _ (ne_of_idx hb)]

theorem good_quaternary {n : Nat} (a : TRef sig Ta) (b : TRef sig Tb) (c : TRef sig Tc) (e : TRef sig Te) (y : TRef sig T)
    (f : Ta.Contents Val → Tb.Contents Val → Tc.Contents Val → Te.Contents Val → T.Contents Val)
    (hy : y.ref.idx.val = n) (ha : a.ref.idx.val < n) (hb : b.ref.idx.val < n) (hc : c.ref.idx.val < n) (he : e.ref.idx.val < n) :
    Good n (TRef.quaternary a b c e y f : HloOp τ sig Val) := by
  subst hy
  refine ⟨y.ref, rfl, quaternary_writes _ _ _ _ _ _ _ _ _ _ _, fun d hd => ?_,
    idem (quaternary_writes _ _ _ _ _ _ _ _ _ _ _) fun V => ?_, rfl⟩
  · rw [quaternary_bufs, Finset.mem_insert, Finset.mem_insert, Finset.mem_insert, Finset.mem_insert, Finset.mem_singleton] at hd
    rcases hd with hd | hd | hd | hd | hd
    · exact ⟨a.ref, ha.le, hd⟩
    · exact ⟨b.ref, hb.le, hd⟩
    · exact ⟨c.ref, hc.le, hd⟩
    · exact ⟨e.ref, he.le, hd⟩
    · exact ⟨y.ref, le_rfl, hd⟩
  · rw [quaternary_result, quaternary_result, quaternary_result_ne _ _ _ _ _ _ _ _ _ _ _ _ (ne_of_idx ha),
      quaternary_result_ne _ _ _ _ _ _ _ _ _ _ _ _ (ne_of_idx hb), quaternary_result_ne _ _ _ _ _ _ _ _ _ _ _ _ (ne_of_idx hc),
      quaternary_result_ne _ _ _ _ _ _ _ _ _ _ _ _ (ne_of_idx he)]

/-! ## The equations, over the values -/

/-- What value `x` is in the contents `W`. -/
def get (W : Valuation τ sig Val) (x : TRef sig T) : T.Contents Val := x.ofBuf (W (Proc.devRef .tc x.ref))

variable {W : Valuation τ sig Val}

theorem get_nullary {y : TRef sig T} {v : T.Contents Val} (h : (TRef.nullary y v : HloOp τ sig Val).result W = W) :
    get W y = v := by
  unfold get; rw [← congrFun h (Proc.devRef .tc y.ref), nullary_result]; simp [TRef.ofBuf, TRef.toBuf]

theorem get_unary {x : TRef sig Ta} {y : TRef sig T} {f : Ta.Contents Val → T.Contents Val}
    (h : (TRef.unary x y f : HloOp τ sig Val).result W = W) : get W y = f (get W x) := by
  unfold get; rw [← congrFun h (Proc.devRef .tc y.ref), unary_result]; simp [TRef.ofBuf, TRef.toBuf]

theorem get_reshape {x : TRef sig Ta} {y : TRef sig T} {he : Ta.elt = T.elt} {hn : Ta.shape.ShapeCasts T.shape}
    (h : (TRef.reshape x y he hn : HloOp τ sig Val).result W = W) :
    get W y = fun i => he ▸ shapeCast T.shape (get W x) hn i := by
  unfold get; rw [← congrFun h (Proc.devRef .tc y.ref), reshape_result]
  obtain ⟨x, rfl, -, -⟩ := x
  obtain ⟨y, rfl, -, -⟩ := y
  rfl

theorem get_binary {a : TRef sig Ta} {b : TRef sig Tb} {y : TRef sig T} {f : Ta.Contents Val → Tb.Contents Val → T.Contents Val}
    (h : (TRef.binary a b y f : HloOp τ sig Val).result W = W) : get W y = f (get W a) (get W b) := by
  unfold get; rw [← congrFun h (Proc.devRef .tc y.ref), binary_result]; simp [TRef.ofBuf, TRef.toBuf]

theorem get_ternary {c : TRef sig Tc} {a : TRef sig Ta} {b : TRef sig Tb} {y : TRef sig T}
    {f : Tc.Contents Val → Ta.Contents Val → Tb.Contents Val → T.Contents Val}
    (h : (TRef.ternary c a b y f : HloOp τ sig Val).result W = W) : get W y = f (get W c) (get W a) (get W b) := by
  unfold get; rw [← congrFun h (Proc.devRef .tc y.ref), ternary_result]; simp [TRef.ofBuf, TRef.toBuf]

theorem get_quaternary {a : TRef sig Ta} {b : TRef sig Tb} {c : TRef sig Tc} {e : TRef sig Te} {y : TRef sig T}
    {f : Ta.Contents Val → Tb.Contents Val → Tc.Contents Val → Te.Contents Val → T.Contents Val}
    (h : (TRef.quaternary a b c e y f : HloOp τ sig Val).result W = W) :
    get W y = f (get W a) (get W b) (get W c) (get W e) := by
  unfold get; rw [← congrFun h (Proc.devRef .tc y.ref), quaternary_result]; simp [TRef.ofBuf, TRef.toBuf]

end Builders

end Cert.Proof.HostLine

end
-- ==== Proof.ReferenceRun.lean ====
/-
  The reference run: from any memory its operations leave the arguments as they were and every
  value equal to its operation's function of the values before it; the fifteen bins' stretches are
  one stretch read at fifteen places.
-/
module

public import proofs.«01_k».proof.Proof.HostLine
public import proofs.«01_k».proof.Proof.Gen.ReferenceIdeal
public import Idealize.ShloMosaic.Init

@[expose] public section

set_option maxRecDepth 16384

noncomputable section

namespace Cert.Proof.ReferenceIdeal

open Cert.ReferenceIdeal Cert.Proof.HostLine
open Cert.ReferenceIdeal.Facts₀
open Idealize.ShloMosaic Idealize.ShloMosaic.StableHlo Idealize.SL.Sem

variable {F : FTy → Type} [FloatOps F]

/-! ## One bin's values -/

/-- The types of the forty values of a bin's stretch, in order. -/
abbrev binTy : Nat → BufTy
  | 0 | 4 | 38 | 39 => ⟨S1, .f32⟩
  | 2 | 6 | 9 | 20 | 23 | 24 | 30 | 31 => ⟨S16384, .f32⟩
  | 3 | 7 | 8 => ⟨S16384, .i1⟩
  | 14 => ⟨S16384, .i32⟩
  | 15 | 16 | 17 | 18 => ⟨S_, .i32⟩
  | _ => ⟨S_, .f32⟩

/-- Bin `b`'s value `j` has the buffer numbered `55 + 40 b + j`, of the type listed. -/
theorem hbmTy_bin : ∀ (b : Fin 15) (j : Fin 40), hbmTy (55 + 40 * b.val + j.val) = binTy j.val := by
  intro b j; fin_cases b <;> fin_cases j <;> rfl

/-- Bin `b`'s value `j`. -/
abbrev cell (T : BufTy) (b : Fin 15) (j : Nat) (hj : j < 40 := by decide) (hT : binTy j = T := by rfl) : TRef sig T where
  ref := ⟨.hbm, ⟨55 + 40 * b.val + j, by have := b.isLt; show _ < 655; omega⟩, rfl⟩
  ty_eq := (hbmTy_bin b ⟨j, hj⟩).trans hT
  on_device := by intro h; cases h
  unscoped := rfl

theorem hbmTy_tot : ∀ b : Fin 16, hbmTy (54 + 40 * b.val) = ⟨S1, .f32⟩ := by intro b; fin_cases b <;> rfl

/-- The running total before bin `b`; before bin 16 it is the result. -/
abbrev tot (b : Fin 16) : TRef sig ⟨S1, .f32⟩ where
  ref := ⟨.hbm, ⟨54 + 40 * b.val, by have := b.isLt; show _ < 655; omega⟩, rfl⟩
  ty_eq := hbmTy_tot b
  on_device := by intro h; cases h
  unscoped := rfl

theorem slices_bin : ∀ b : Fin 15, S15.Slices ![b.val] S1 := by decide

/-- The two slices of the bounds, the confidences and the hits: what a bin reads of the values before. -/
abbrev rLo : TRef sig ⟨S15, .f32⟩ := .of main_v4
abbrev rUp : TRef sig ⟨S15, .f32⟩ := .of main_v5
abbrev rConf : TRef sig ⟨S16384, .f32⟩ := .of main_v17
abbrev rHit : TRef sig ⟨S16384, .i1⟩ := .of main_v19

abbrev tS1 : BufTy := ⟨S1, .f32⟩
abbrev tS : BufTy := ⟨S_, .f32⟩
abbrev tV : BufTy := ⟨S16384, .f32⟩
abbrev tM : BufTy := ⟨S16384, .i1⟩
abbrev tVi : BufTy := ⟨S16384, .i32⟩
abbrev tSi : BufTy := ⟨S_, .i32⟩

/-- Bin `b`'s operations. -/
def binOps (b : Fin 15) : List (HloOp τ sig (Elt F)) :=
  [ TRef.unary rLo (cell tS1 b 0) (extractStridedSlice S1 ![b.val] · (slices_bin b)),
    TRef.reshape (cell tS1 b 0) (cell tS b 1) rfl shapeCasts_S1_S_,
    TRef.unary (cell tS b 1) (cell tV b 2) (broadcastInDim S16384 ![] bcast_S_S16384),
    TRef.binary rConf (cell tV b 2) (cell tM b 3) (cmpf .ogt),
    TRef.unary rUp (cell tS1 b 4) (extractStridedSlice S1 ![b.val] · (slices_bin b)),
    TRef.reshape (cell tS1 b 4) (cell tS b 5) rfl shapeCasts_S1_S_,
    TRef.unary (cell tS b 5) (cell tV b 6) (broadcastInDim S16384 ![] bcast_S_S16384),
    TRef.binary rConf (cell tV b 6) (cell tM b 7) (cmpf .ole),
    TRef.binary (cell tM b 3) (cell tM b 7) (cell tM b 8) andi,
    TRef.unary (cell tM b 8) (cell tV b 9) (uitofp .f32),
    TRef.nullary (cell tS b 10) (constant S_ .f32 0x00000000#32),
    TRef.binary (cell tV b 9) (cell tS b 10) (cell tS b 11) (fun x v => Host.reduceAdd x v reducesTo_S16384_S_d0 h_S_),
    TRef.nullary (cell tS b 12) (constant S_ .f32 0x46800000#32),
    TRef.binary (cell tS b 11) (cell tS b 12) (cell tS b 13) Host.divf,
    TRef.unary (cell tM b 8) (cell tVi b 14) (extui 32 · natLt_1_32),
    TRef.nullary (cell tSi b 15) (constantI S_ 32 0#32),
    TRef.binary (cell tVi b 14) (cell tSi b 15) (cell tSi b 16) (fun x v => Host.reduce IntOp.addi x v reducesTo_S16384_S_d0 h_S_),
    TRef.nullary (cell tSi b 17) (constantI S_ 32 1#32),
    TRef.binary (cell tSi b 16) (cell tSi b 17) (cell tSi b 18) maxsi,
    TRef.unary (cell tSi b 18) (cell tS b 19) (sitofp .f32),
    TRef.unary rHit (cell tV b 20) (uitofp .f32),
    TRef.nullary (cell tS b 21) (constant S_ .f32 0x00000000#32),
    TRef.unary (cell tS b 21) (cell tS b 22) id,
    TRef.unary (cell tS b 22) (cell tV b 23) (broadcastInDim S16384 ![] bcast_S_S16384),
    TRef.ternary (cell tM b 8) (cell tV b 20) (cell tV b 23) (cell tV b 24) select,
    TRef.nullary (cell tS b 25) (constant S_ .f32 0x00000000#32),
    TRef.binary (cell tV b 24) (cell tS b 25) (cell tS b 26) (fun x v => Host.reduceAdd x v reducesTo_S16384_S_d0 h_S_),
    TRef.binary (cell tS b 26) (cell tS b 19) (cell tS b 27) Host.divf,
    TRef.nullary (cell tS b 28) (constant S_ .f32 0x00000000#32),
    TRef.unary (cell tS b 28) (cell tS b 29) id,
    TRef.unary (cell tS b 29) (cell tV b 30) (broadcastInDim S16384 ![] bcast_S_S16384),
    TRef.ternary (cell tM b 8) rConf (cell tV b 30) (cell tV b 31) select,
    TRef.nullary (cell tS b 32) (constant S_ .f32 0x00000000#32),
    TRef.binary (cell tV b 31) (cell tS b 32) (cell tS b 33) (fun x v => Host.reduceAdd x v reducesTo_S16384_S_d0 h_S_),
    TRef.binary (cell tS b 33) (cell tS b 19) (cell tS b 34) Host.divf,
    TRef.binary (cell tS b 34) (cell tS b 27) (cell tS b 35) subf,
    TRef.unary (cell tS b 35) (cell tS b 36) Host.absf,
    TRef.binary (cell tS b 36) (cell tS b 13) (cell tS b 37) mulf,
    TRef.unary (cell tS b 37) (cell tS1 b 38) (broadcastInDim S1 ![] bcast_S_S1),
    TRef.binary (tot b.castSucc) (cell tS1 b 38) (tot b.succ) addf ]

theorem binOps_chain (b : Fin 15) : Chain (55 + 40 * b.val) (binOps (F := F) b) := by
  refine ⟨good_unary _ _ _ ?_ ?_, good_reshape _ _ _ _ ?_ ?_, good_unary _ _ _ ?_ ?_, good_binary _ _ _ _ ?_ ?_ ?_, good_unary _ _ _ ?_ ?_, good_reshape _ _ _ _ ?_ ?_, good_unary _ _ _ ?_ ?_, good_binary _ _ _ _ ?_ ?_ ?_, good_binary _ _ _ _ ?_ ?_ ?_, good_unary _ _ _ ?_ ?_, good_nullary _ _ ?_, good_binary _ _ _ _ ?_ ?_ ?_, good_nullary _ _ ?_, good_binary _ _ _ _ ?_ ?_ ?_, good_unary _ _ _ ?_ ?_, good_nullary _ _ ?_, good_binary _ _ _ _ ?_ ?_ ?_, good_nullary _ _ ?_, good_binary _ _ _ _ ?_ ?_ ?_, good_unary _ _ _ ?_ ?_, good_unary _ _ _ ?_ ?_, good_nullary _ _ ?_, good_unary _ _ _ ?_ ?_, good_unary _ _ _ ?_ ?_, good_ternary _ _ _ _ _ ?_ ?_ ?_ ?_, good_nullary _ _ ?_, good_binary _ _ _ _ ?_ ?_ ?_, good_binary _ _ _ _ ?_ ?_ ?_, good_nullary _ _ ?_, good_unary _ _ _ ?_ ?_, good_unary _ _ _ ?_ ?_, good_ternary _ _ _ _ _ ?_ ?_ ?_ ?_, good_nullary _ _ ?_, good_binary _ _ _ _ ?_ ?_ ?_, good_binary _ _ _ _ ?_ ?_ ?_, good_binary _ _ _ _ ?_ ?_ ?_, good_unary _ _ _ ?_ ?_, good_binary _ _ _ _ ?_ ?_ ?_, good_unary _ _ _ ?_ ?_, good_binary _ _ _ _ ?_ ?_ ?_, trivial⟩ <;> first | (show 54 + 40 * (b.val + 1) = _; omega) | rfl | (show _ < _; dsimp only [Fin.val_castSucc]; omega) | (refine Nat.lt_of_lt_of_le (m := 55) (by decide) ?_; omega)

/-! ## The values before the bins -/

/-- The operations before the bins. -/
def preOps : List (HloOp τ sig (Elt F)) :=
  [ TRef.nullary (.of main_cst : TRef sig ⟨S_, .f32⟩) (constant S_ .f32 0x00000000#32),
    TRef.nullary (.of main_cst_0 : TRef sig ⟨S_, .f32⟩) (constant S_ .f32 0x3F800000#32),
    TRef.unary (.of main_cst : TRef sig ⟨S_, .f32⟩) (.of main_call0_v0 : TRef sig ⟨S_, .f32⟩) id,
    TRef.unary (.of main_cst_0 : TRef sig ⟨S_, .f32⟩) (.of main_call0_v1 : TRef sig ⟨S_, .f32⟩) id,
    TRef.binary (.of main_call0_v1 : TRef sig ⟨S_, .f32⟩) (.of main_call0_v0 : TRef sig ⟨S_, .f32⟩) (.of main_call0_v2 : TRef sig ⟨S_, .f32⟩) subf,
    TRef.nullary (.of main_call0_cst : TRef sig ⟨S_, .f32⟩) (constant S_ .f32 0x41700000#32),
    TRef.binary (.of main_call0_v2 : TRef sig ⟨S_, .f32⟩) (.of main_call0_cst : TRef sig ⟨S_, .f32⟩) (.of main_call0_v3 : TRef sig ⟨S_, .f32⟩) Host.divf,
    TRef.nullary (.of main_call0_v4 : TRef sig ⟨S15, .f32⟩) (sitofp .f32 (iotaInDim S15 32 0)),
    TRef.nullary (.of main_call0_cst_0 : TRef sig ⟨S_, .f32⟩) (constant S_ .f32 0x41700000#32),
    TRef.unary (.of main_call0_cst_0 : TRef sig ⟨S_, .f32⟩) (.of main_call0_v5 : TRef sig ⟨S15, .f32⟩) (broadcastInDim S15 ![] bcast_S_S15),
    TRef.binary (.of main_call0_v4 : TRef sig ⟨S15, .f32⟩) (.of main_call0_v5 : TRef sig ⟨S15, .f32⟩) (.of main_call0_v6 : TRef sig ⟨S15, .f32⟩) Host.divf,
    TRef.reshape (.of main_call0_v0 : TRef sig ⟨S_, .f32⟩) (.of main_call0_v7 : TRef sig ⟨S1, .f32⟩) (rfl : (.f32 : EltTy) = .f32) shapeCasts_S_S1,
    TRef.nullary (.of main_call0_cst_1 : TRef sig ⟨S_, .f32⟩) (constant S_ .f32 0x3F800000#32),
    TRef.unary (.of main_call0_cst_1 : TRef sig ⟨S_, .f32⟩) (.of main_call0_v8 : TRef sig ⟨S15, .f32⟩) (broadcastInDim S15 ![] bcast_S_S15),
    TRef.binary (.of main_call0_v8 : TRef sig ⟨S15, .f32⟩) (.of main_call0_v6 : TRef sig ⟨S15, .f32⟩) (.of main_call0_v9 : TRef sig ⟨S15, .f32⟩) subf,
    TRef.unary (.of main_call0_v7 : TRef sig ⟨S1, .f32⟩) (.of main_call0_v10 : TRef sig ⟨S15, .f32⟩) (broadcastInDim S15 ![0] bcast_S1_S15_0),
    TRef.binary (.of main_call0_v10 : TRef sig ⟨S15, .f32⟩) (.of main_call0_v9 : TRef sig ⟨S15, .f32⟩) (.of main_call0_v11 : TRef sig ⟨S15, .f32⟩) mulf,
    TRef.reshape (.of main_call0_v1 : TRef sig ⟨S_, .f32⟩) (.of main_call0_v12 : TRef sig ⟨S1, .f32⟩) (rfl : (.f32 : EltTy) = .f32) shapeCasts_S_S1,
    TRef.unary (.of main_call0_v12 : TRef sig ⟨S1, .f32⟩) (.of main_call0_v13 : TRef sig ⟨S15, .f32⟩) (broadcastInDim S15 ![0] bcast_S1_S15_0),
    TRef.binary (.of main_call0_v13 : TRef sig ⟨S15, .f32⟩) (.of main_call0_v6 : TRef sig ⟨S15, .f32⟩) (.of main_call0_v14 : TRef sig ⟨S15, .f32⟩) mulf,
    TRef.binary (.of main_call0_v11 : TRef sig ⟨S15, .f32⟩) (.of main_call0_v14 : TRef sig ⟨S15, .f32⟩) (.of main_call0_v15 : TRef sig ⟨S15, .f32⟩) addf,
    TRef.unary (.of main_call0_v1 : TRef sig ⟨S_, .f32⟩) (.of main_call0_v16 : TRef sig ⟨S1, .f32⟩) (broadcastInDim S1 ![] bcast_S_S1),
    TRef.binary (.of main_call0_v15 : TRef sig ⟨S15, .f32⟩) (.of main_call0_v16 : TRef sig ⟨S1, .f32⟩) (.of main_v0 : TRef sig ⟨S16, .f32⟩) (fun a b => concatenate S16 0 [⟨S15, a⟩, ⟨S1, b⟩] concatenates_S15_S1_S16_d0),
    TRef.nullary (.of main_cst_1 : TRef sig ⟨S_, .f32⟩) (constant S_ .f32 0x46800000#32),
    TRef.unary (.of main_cst_1 : TRef sig ⟨S_, .f32⟩) (.of main_v1 : TRef sig ⟨S16, .f32⟩) (broadcastInDim S16 ![] bcast_S_S16),
    TRef.binary (.of main_v0 : TRef sig ⟨S16, .f32⟩) (.of main_v1 : TRef sig ⟨S16, .f32⟩) (.of main_v2 : TRef sig ⟨S16, .f32⟩) (mulf),
    TRef.unary (.of main_v2 : TRef sig ⟨S16, .f32⟩) (.of main_v3 : TRef sig ⟨S16, .f32⟩) Host.roundeven,
    TRef.unary (.of main_v3 : TRef sig ⟨S16, .f32⟩) (.of main_v4 : TRef sig ⟨S15, .f32⟩) ((extractStridedSlice S15 ![0] · slices_S16_S15_0)),
    TRef.unary (.of main_v3 : TRef sig ⟨S16, .f32⟩) (.of main_v5 : TRef sig ⟨S15, .f32⟩) ((extractStridedSlice S15 ![1] · slices_S16_S15_1)),
    TRef.nullary (.of main_cst_2 : TRef sig ⟨S_, .f32⟩) (constant S_ .f32 0xFF800000#32),
    TRef.binary (.of main_arg0 : TRef sig ⟨S16384x1000, .f32⟩) (.of main_cst_2 : TRef sig ⟨S_, .f32⟩) (.of main_v6 : TRef sig ⟨S16384, .f32⟩) ((fun x v => Host.reduce FloatOps.maximumf x v reducesTo_S16384x1000_S16384_d1 h_S_)),
    TRef.nullary (.of main_cst_3 : TRef sig ⟨S_, .f32⟩) (constant S_ .f32 0xFF800000#32),
    TRef.unary (.of main_cst_3 : TRef sig ⟨S_, .f32⟩) (.of main_v7 : TRef sig ⟨S16384, .f32⟩) (broadcastInDim S16384 ![] bcast_S_S16384),
    TRef.binary (.of main_v7 : TRef sig ⟨S16384, .f32⟩) (.of main_v6 : TRef sig ⟨S16384, .f32⟩) (.of main_v8 : TRef sig ⟨S16384, .f32⟩) (maximumf),
    TRef.unary (.of main_v8 : TRef sig ⟨S16384, .f32⟩) (.of main_v9 : TRef sig ⟨S16384x1, .f32⟩) (broadcastInDim S16384x1 ![0] bcast_S16384_S16384x1_0),
    TRef.unary (.of main_v9 : TRef sig ⟨S16384x1, .f32⟩) (.of main_v10 : TRef sig ⟨S16384x1000, .f32⟩) (broadcastInDim S16384x1000 ![0, 1] bcast_S16384x1_S16384x1000_0_1),
    TRef.binary (.of main_arg0 : TRef sig ⟨S16384x1000, .f32⟩) (.of main_v10 : TRef sig ⟨S16384x1000, .f32⟩) (.of main_v11 : TRef sig ⟨S16384x1000, .f32⟩) (subf),
    TRef.unary (.of main_v11 : TRef sig ⟨S16384x1000, .f32⟩) (.of main_v12 : TRef sig ⟨S16384x1000, .f32⟩) (Host.exp),
    TRef.nullary (.of main_cst_4 : TRef sig ⟨S_, .f32⟩) (constant S_ .f32 0x00000000#32),
    TRef.binary (.of main_v12 : TRef sig ⟨S16384x1000, .f32⟩) (.of main_cst_4 : TRef sig ⟨S_, .f32⟩) (.of main_v13 : TRef sig ⟨S16384, .f32⟩) ((fun x v => Host.reduceAdd x v reducesTo_S16384x1000_S16384_d1 h_S_)),
    TRef.unary (.of main_v13 : TRef sig ⟨S16384, .f32⟩) (.of main_v14 : TRef sig ⟨S16384x1, .f32⟩) (broadcastInDim S16384x1 ![0] bcast_S16384_S16384x1_0),
    TRef.unary (.of main_v14 : TRef sig ⟨S16384x1, .f32⟩) (.of main_v15 : TRef sig ⟨S16384x1000, .f32⟩) (broadcastInDim S16384x1000 ![0, 1] bcast_S16384x1_S16384x1000_0_1),
    TRef.binary (.of main_v12 : TRef sig ⟨S16384x1000, .f32⟩) (.of main_v15 : TRef sig ⟨S16384x1000, .f32⟩) (.of main_v16 : TRef sig ⟨S16384x1000, .f32⟩) (Host.divf),
    TRef.nullary (.of main_cst_5 : TRef sig ⟨S_, .f32⟩) (constant S_ .f32 0xFF800000#32),
    TRef.binary (.of main_v16 : TRef sig ⟨S16384x1000, .f32⟩) (.of main_cst_5 : TRef sig ⟨S_, .f32⟩) (.of main_v17 : TRef sig ⟨S16384, .f32⟩) ((fun x v => Host.reduce FloatOps.maximumf x v reducesTo_S16384x1000_S16384_d1 h_S_)),
    TRef.nullary (.of main_call2_v0 : TRef sig ⟨S16384x1000, .i32⟩) (iotaInDim S16384x1000 32 1),
    TRef.nullary (.of main_call2_cst : TRef sig ⟨S_, .f32⟩) (constant S_ .f32 0xFF800000#32),
    TRef.nullary (.of main_call2_c : TRef sig ⟨S_, .i32⟩) (constantI S_ 32 0#32),
    TRef.quaternary (.of main_v16 : TRef sig ⟨S16384x1000, .f32⟩) (.of main_call2_v0 : TRef sig ⟨S16384x1000, .i32⟩) (.of main_call2_cst : TRef sig ⟨S_, .f32⟩) (.of main_call2_c : TRef sig ⟨S_, .i32⟩) (.of main_call2_v1_0 : TRef sig ⟨S16384, .f32⟩) (fun x y u v j => (Host.argReduce reducer_argmax_f32_i32 x y u v reducesTo_S16384x1000_S16384_d1 h_S_ j).1),
    TRef.quaternary (.of main_v16 : TRef sig ⟨S16384x1000, .f32⟩) (.of main_call2_v0 : TRef sig ⟨S16384x1000, .i32⟩) (.of main_call2_cst : TRef sig ⟨S_, .f32⟩) (.of main_call2_c : TRef sig ⟨S_, .i32⟩) (.of main_v18 : TRef sig ⟨S16384, .i32⟩) (fun x y u v j => (Host.argReduce reducer_argmax_f32_i32 x y u v reducesTo_S16384x1000_S16384_d1 h_S_ j).2),
    TRef.binary (.of main_v18 : TRef sig ⟨S16384, .i32⟩) (.of main_arg1 : TRef sig ⟨S16384, .i32⟩) (.of main_v19 : TRef sig ⟨S16384, .i1⟩) (cmpi .eq),
    TRef.nullary (.of main_cst_6 : TRef sig ⟨S_, .f32⟩) (constant S_ .f32 0x00000000#32),
    TRef.unary (.of main_cst_6 : TRef sig ⟨S_, .f32⟩) (.of main_v20 : TRef sig ⟨S1, .f32⟩) (broadcastInDim S1 ![] bcast_S_S1) ]

theorem preOps_chain : Chain 2 (preOps (F := F)) := by
  refine ⟨good_nullary _ _ ?_, good_nullary _ _ ?_, good_unary _ _ _ ?_ ?_, good_unary _ _ _ ?_ ?_, good_binary _ _ _ _ ?_ ?_ ?_, good_nullary _ _ ?_, good_binary _ _ _ _ ?_ ?_ ?_, good_nullary _ _ ?_, good_nullary _ _ ?_, good_unary _ _ _ ?_ ?_, good_binary _ _ _ _ ?_ ?_ ?_, good_reshape _ _ _ _ ?_ ?_, good_nullary _ _ ?_, good_unary _ _ _ ?_ ?_, good_binary _ _ _ _ ?_ ?_ ?_, good_unary _ _ _ ?_ ?_, good_binary _ _ _ _ ?_ ?_ ?_, good_reshape _ _ _ _ ?_ ?_, good_unary _ _ _ ?_ ?_, good_binary _ _ _ _ ?_ ?_ ?_, good_binary _ _ _ _ ?_ ?_ ?_, good_unary _ _ _ ?_ ?_, good_binary _ _ _ _ ?_ ?_ ?_, good_nullary _ _ ?_, good_unary _ _ _ ?_ ?_, good_binary _ _ _ _ ?_ ?_ ?_, good_unary _ _ _ ?_ ?_, good_unary _ _ _ ?_ ?_, good_unary _ _ _ ?_ ?_, good_nullary _ _ ?_, good_binary _ _ _ _ ?_ ?_ ?_, good_nullary _ _ ?_, good_unary _ _ _ ?_ ?_, good_binary _ _ _ _ ?_ ?_ ?_, good_unary _ _ _ ?_ ?_, good_unary _ _ _ ?_ ?_, good_binary _ _ _ _ ?_ ?_ ?_, good_unary _ _ _ ?_ ?_, good_nullary _ _ ?_, good_binary _ _ _ _ ?_ ?_ ?_, good_unary _ _ _ ?_ ?_, good_unary _ _ _ ?_ ?_, good_binary _ _ _ _ ?_ ?_ ?_, good_nullary _ _ ?_, good_binary _ _ _ _ ?_ ?_ ?_, good_nullary _ _ ?_, good_nullary _ _ ?_, good_nullary _ _ ?_, good_quaternary _ _ _ _ _ _ ?_ ?_ ?_ ?_ ?_, good_quaternary _ _ _ _ _ _ ?_ ?_ ?_ ?_ ?_, good_binary _ _ _ _ ?_ ?_ ?_, good_nullary _ _ ?_, good_unary _ _ _ ?_ ?_, trivial⟩ <;> first | rfl | decide

/-! ## The run -/

/-- The program's operations: those before the bins, then each bin's. -/
def ops : List (HloOp τ sig (Elt F)) := preOps ++ (binOps 0 ++ (binOps 1 ++ (binOps 2 ++ (binOps 3 ++ (binOps 4 ++ (binOps 5
  ++ (binOps 6 ++ (binOps 7 ++ (binOps 8 ++ (binOps 9 ++ (binOps 10 ++ (binOps 11 ++ (binOps 12 ++ (binOps 13 ++ binOps 14))))))))))))))

theorem pre_mem {op : HloOp τ sig (Elt F)} (h : op ∈ preOps (F := F)) : op ∈ ops (F := F) := List.mem_append_left _ h
theorem bin_mem (b : Fin 15) {op : HloOp τ sig (Elt F)} (h : op ∈ binOps (F := F) b) : op ∈ ops (F := F) := by
  unfold ops; simp only [List.mem_append]
  fin_cases b <;> simp_all

theorem ops_chain : Chain 2 (ops (F := F)) := by
  refine preOps_chain.append rfl ?_
  refine (binOps_chain 0).append rfl ((binOps_chain 1).append rfl ((binOps_chain 2).append rfl ((binOps_chain 3).append rfl
    ((binOps_chain 4).append rfl ((binOps_chain 5).append rfl ((binOps_chain 6).append rfl ((binOps_chain 7).append rfl
    ((binOps_chain 8).append rfl ((binOps_chain 9).append rfl ((binOps_chain 10).append rfl ((binOps_chain 11).append rfl
    ((binOps_chain 12).append rfl ((binOps_chain 13).append rfl (binOps_chain 14))))))))))))))

section
attribute [local irreducible] Host.reduce Host.reduceAdd Host.argReduce

/-- The operations from place `a` on, `n` of them. -/
def cut (a n : Nat) : List (HloOp τ sig (Elt F)) := (ops.drop a).take n

theorem part0_eq (d : Dev nD) : main_part0 (F := F) d = seq (cut 0 88) := by rfl
theorem part1_eq (d : Dev nD) : main_part1 (F := F) d = seq (cut 88 64) := by rfl
theorem part2_eq (d : Dev nD) : main_part2 (F := F) d = seq (cut 152 68) := by rfl
theorem part3_eq (d : Dev nD) : main_part3 (F := F) d = seq (cut 220 68) := by rfl
theorem part4_eq (d : Dev nD) : main_part4 (F := F) d = seq (cut 288 64) := by rfl
theorem part5_eq (d : Dev nD) : main_part5 (F := F) d = seq (cut 352 68) := by rfl
theorem part6_eq (d : Dev nD) : main_part6 (F := F) d = seq (cut 420 68) := by rfl
theorem part7_eq (d : Dev nD) : main_part7 (F := F) d = seq (cut 488 64) := by rfl
theorem part8_eq (d : Dev nD) : main_part8 (F := F) d = seq (cut 552 68) := by rfl
theorem part9_eq (d : Dev nD) : main_part9 (F := F) d = seq (cut 620 33) := by rfl

theorem ops_cut : ops (F := F) = cut 0 88 ++ (cut 88 64 ++ (cut 152 68 ++ (cut 220 68 ++ (cut 288 64 ++ (cut 352 68 ++ (cut 420 68 ++ (cut 488 64 ++ (cut 552 68 ++ (cut 620 33))))))))) := by rfl

theorem main_eq (d : Dev nD) : main (F := F) d = seq ops := by
  rw [ops_cut]
  simp only [seq_append, ← part0_eq d, ← part1_eq d, ← part2_eq d, ← part3_eq d, ← part4_eq d, ← part5_eq d, ← part6_eq d, ← part7_eq d, ← part8_eq d, ← part9_eq d]
  rfl

end

theorem no_scoped_ref : (Finset.univ.filter fun b : Ref sig .tc => b.isScoped) = ∅ :=
  Finset.filter_false_of_mem fun b _ => by rcases b with ⟨_ | _ | _, i, h⟩ <;> first | exact absurd i.isLt (Nat.not_lt_zero _) | simp [Ref.isScoped]
theorem no_scoped_sem : (Finset.univ.filter fun sm : SemLoc sig => sm.isScoped .tc) = ∅ := by decide

variable (m : (ℓ : Loc nD τ sig) → Buf (Elt F) ℓ) (ρ : Dev nD → PrngReg)

/-- What the buffers of device `d` hold at the end. -/
def fin (d : Dev nD) : Valuation τ sig (Elt F) := after ops (launchContents m d)

theorem run : θ_run defs (onTc (τ := τ) (main (F := F))) ⟨m, fun _ => 0, ρ⟩ fun r =>
    ∀ (d : Dev nD) (b : Ref sig .tc), r.2.mem ((d.tc : Thread nD τ).loc b) = fin m d (Proc.devRef .tc b) :=
  run_seq no_scoped_ref no_scoped_sem defs main (fun _ => ops) main_eq (fun _ => ops_chain.bufs_sub) m ρ (fun _ => ops_chain.fresh)

theorem fin_fixed (d : Dev nD) : ∀ op ∈ ops (F := F), op.result (fin m d) = fin m d := ops_chain.fixed _
theorem fin_arg0 (d : Dev nD) : fin m d (Proc.devRef .tc main_arg0) = m ((d.tc : Thread nD τ).loc main_arg0) :=
  ops_chain.below _ (by decide)
theorem fin_arg1 (d : Dev nD) : fin m d (Proc.devRef .tc main_arg1) = m ((d.tc : Thread nD τ).loc main_arg1) :=
  ops_chain.below _ (by decide)

/-! ## The values -/

/-- The rows whose confidence lies in bin `b`. -/
def inBin (lo up : BufTy.Contents (Elt F) ⟨S15, .f32⟩) (conf : BufTy.Contents (Elt F) tV) (b : Fin 15) : BufTy.Contents (Elt F) tM :=
  andi (cmpf .ogt conf (broadcastInDim S16384 ![] bcast_S_S16384 (shapeCast S_ (extractStridedSlice S1 ![b.val] lo (slices_bin b)) shapeCasts_S1_S_)))
    (cmpf .ole conf (broadcastInDim S16384 ![] bcast_S_S16384 (shapeCast S_ (extractStridedSlice S1 ![b.val] up (slices_bin b)) shapeCasts_S1_S_)))

/-- The sum over the rows of a bin. -/
def sumIn (k : BufTy.Contents (Elt F) tM) (v : BufTy.Contents (Elt F) tV) : BufTy.Contents (Elt F) tS :=
  Host.reduceAdd (select k v (broadcastInDim S16384 ![] bcast_S_S16384 (constant S_ .f32 0x00000000#32)))
    (constant S_ .f32 0x00000000#32) reducesTo_S16384_S_d0 h_S_

/-- The number of rows of a bin, at least one. -/
def count (k : BufTy.Contents (Elt F) tM) : BufTy.Contents (Elt F) tS :=
  sitofp .f32 (maxsi (Host.reduce IntOp.addi (extui 32 k natLt_1_32) (constantI S_ 32 0#32) reducesTo_S16384_S_d0 h_S_) (constantI S_ 32 1#32))

/-- The share of the rows in a bin. -/
def share (k : BufTy.Contents (Elt F) tM) : BufTy.Contents (Elt F) tS :=
  Host.divf (Host.reduceAdd (uitofp .f32 k) (constant S_ .f32 0x00000000#32) reducesTo_S16384_S_d0 h_S_) (constant S_ .f32 0x46800000#32)

/-- A bin's term: its mean confidence less its accuracy, in absolute value, times its share. -/
def term (k : BufTy.Contents (Elt F) tM) (conf : BufTy.Contents (Elt F) tV) (hit : BufTy.Contents (Elt F) tM) : BufTy.Contents (Elt F) tS :=
  mulf (Host.absf (subf (Host.divf (sumIn k conf) (count k)) (Host.divf (sumIn k (uitofp .f32 hit)) (count k)))) (share k)

/-- The total after a bin. -/
def addBin (lo up : BufTy.Contents (Elt F) ⟨S15, .f32⟩) (conf : BufTy.Contents (Elt F) tV) (hit : BufTy.Contents (Elt F) tM)
    (b : Fin 15) (acc : BufTy.Contents (Elt F) tS1) : BufTy.Contents (Elt F) tS1 :=
  addf acc (broadcastInDim S1 ![] bcast_S_S1 (term (inBin lo up conf b) conf hit))

variable {W : Valuation τ sig (Elt F)} (hW : ∀ op ∈ ops (F := F), op.result W = W)

include hW in
theorem get_bin (b : Fin 15) :
    get W (tot b.succ) = addBin (get W rLo) (get W rUp) (get W rConf) (get W rHit) b (get W (tot b.castSucc)) := by
  have hF : (binOps (F := F) b).Forall fun op => op.result W = W :=
    List.forall_iff_forall_mem.mpr fun op ho => hW op (bin_mem b ho)
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hF
  have e0 := get_unary h0
  have e1 : get W (cell tS b 1) = shapeCast S_ (get W (cell tS1 b 0)) shapeCasts_S1_S_ := get_reshape h1
  have e2 := get_unary h2
  have e3 := get_binary h3
  have e4 := get_unary h4
  have e5 : get W (cell tS b 5) = shapeCast S_ (get W (cell tS1 b 4)) shapeCasts_S1_S_ := get_reshape h5
  have e6 := get_unary h6
  have e7 := get_binary h7
  have e8 := get_binary h8
  have e9 := get_unary h9
  have e10 := get_nullary h10
  have e11 := get_binary h11
  have e12 := get_nullary h12
  have e13 := get_binary h13
  have e14 := get_unary h14
  have e15 := get_nullary h15
  have e16 := get_binary h16
  have e17 := get_nullary h17
  have e18 := get_binary h18
  have e19 := get_unary h19
  have e20 := get_unary h20
  have e21 := get_nullary h21
  have e22 := get_unary h22
  have e23 := get_unary h23
  have e24 := get_ternary h24
  have e25 := get_nullary h25
  have e26 := get_binary h26
  have e27 := get_binary h27
  have e28 := get_nullary h28
  have e29 := get_unary h29
  have e30 := get_unary h30
  have e31 := get_ternary h31
  have e32 := get_nullary h32
  have e33 := get_binary h33
  have e34 := get_binary h34
  have e35 := get_binary h35
  have e36 := get_unary h36
  have e37 := get_binary h37
  have e38 := get_unary h38
  have e39 := get_binary h39
  rw [e39, e38, e37, e36, e35, e34, e33, e32, e31, e30, e29, e28, e27, e26, e25, e24, e23, e22, e21, e20, e19, e18, e17, e16, e15, e14, e13, e12, e11, e10, e9, e8, e7, e6, e5, e4, e3, e2, e1, e0]
  rfl

end Cert.Proof.ReferenceIdeal

end
-- ==== Proof.ReferenceFrame.lean ====
/-
  The reference's executions end, leave the arguments unchanged and every counter at zero.
-/
module

public import proofs.«01_k».proof.Defs
public import proofs.«01_k».proof.Proof.ReferenceRun
public import Idealize.ShloMosaic.Lib.Quiescent

@[expose] public section

set_option maxRecDepth 16384

noncomputable section

namespace Cert.Proof

open Idealize.ShloMosaic Idealize.ShloMosaic.TcCoe
open Idealize.SL.Sem

/-- The program has no semaphore, and no operation writes an argument. -/
theorem frame_reference : Cert.quiescent_ReferenceIdeal (hReferenceIdeal := Cert.ReferenceIdeal.Gen.facts) := by
  intro m g _
  refine (θ_run _ _ _).mono (fun r h => ⟨fun c => ⟨?_, ?_⟩, sem_eq_zero_of_no_sems (by decide) r.2⟩) (ReferenceIdeal.run (F := Ideal) m g)
  · exact (h c _).trans (ReferenceIdeal.fin_arg0 m c)
  · exact (h c _).trans (ReferenceIdeal.fin_arg1 m c)

end Cert.Proof
end
-- ==== Proof.Row.lean ====
/-
  One row of logits over the extended reals: its maximum, the sum of its exponentials, its softmax, the first
  place of its maximum, and what the bins make of its confidence.
-/
module

public import Idealize.ShloMosaic.PureOps.Ideal.Laws
public import Idealize.ShloMosaic.Lib.Pointwise

@[expose] public section

noncomputable section

namespace Cert.Proof.Row

open Idealize.ShloMosaic

variable (x : Fin 1000 → EReal)

/-- The greatest entry. -/
def top : EReal := Finset.univ.sup x
/-- An entry's exponential, the greatest entry subtracted first. -/
def ex (k : Fin 1000) : EReal := Ideal.exp (x k - top x)
/-- The sum of the exponentials. -/
def mass : EReal := ∑ k, ex x k
/-- The softmax. -/
def soft (k : Fin 1000) : EReal := Ideal.div (ex x k) (mass x)
/-- A row is good when its greatest entry is a real number. -/
def Good : Prop := top x ≠ ⊥ ∧ top x ≠ ⊤

theorem le_top (k : Fin 1000) : x k ≤ top x := Finset.le_sup (Finset.mem_univ k)
theorem exists_top : ∃ k, x k = top x := by
  obtain ⟨k, _, h⟩ := Finset.exists_mem_eq_sup Finset.univ Finset.univ_nonempty x
  exact ⟨k, h.symm⟩

theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem exp_nonneg (a : EReal) : 0 ≤ Ideal.exp a := by
  induction a with
  | bot => simp
  | top => simp
  | coe r => simpa using EReal.coe_nonneg.mpr (Real.exp_pos r).le

theorem ex_nonneg (k : Fin 1000) : 0 ≤ ex x k := exp_nonneg _

/-- In a bad row every exponential is zero. -/
theorem ex_bad (h : ¬ Good x) (k : Fin 1000) : ex x k = 0 := by
  have hk := le_top x k
  unfold ex
  by_cases hb : top x = ⊥
  · rw [hb] at hk ⊢
    rw [le_bot_iff.mp hk, EReal.bot_sub]; rfl
  · have ht : top x = ⊤ := by by_contra ht; exact h ⟨hb, ht⟩
    rw [ht, EReal.sub_top]; rfl

theorem mass_bad (h : ¬ Good x) : mass x = 0 := Finset.sum_eq_zero fun k _ => ex_bad x h k

section
variable {x} (h : Good x)
include h

theorem ex_eq_one {k : Fin 1000} (hk : x k = top x) : ex x k = 1 := by
  unfold ex
  rw [hk, EReal.sub_self h.2 h.1]
  show Ideal.exp ((0 : ℝ) : EReal) = 1
  rw [Ideal.exp_coe, Real.exp_zero]; rfl

theorem ex_lt_one {k : Fin 1000} (hk : x k ≠ top x) : ex x k < 1 := by
  have hl := lt_of_le_of_ne (le_top x k) hk
  unfold ex
  obtain ⟨m, hm⟩ : ∃ m : ℝ, top x = m := ⟨_, (EReal.coe_toReal h.2 h.1).symm⟩
  rw [hm] at hl ⊢
  generalize x k = a at hl
  induction a with
  | bot => rw [EReal.bot_sub]; simp
  | top => exact absurd hl (by simp)
  | coe r =>
    rw [← EReal.coe_sub, Ideal.exp_coe]
    rw [EReal.coe_lt_coe_iff] at hl
    have : Real.exp (r - m) < 1 := Real.exp_lt_one_iff.mpr (by linarith)
    exact_mod_cast this

theorem ex_le_one (k : Fin 1000) : ex x k ≤ 1 := by
  by_cases hk : x k = top x
  · exact (ex_eq_one h hk).le
  · exact (ex_lt_one h hk).le

/-- In a good row the exponentials sum to a real number, one at least. -/
theorem mass_good : ∃ s : ℝ, 1 ≤ s ∧ mass x = s := by
  have h1 : (1 : EReal) ≤ mass x := by
    obtain ⟨k, hk⟩ := exists_top x
    rw [← ex_eq_one h hk]
    exact Finset.single_le_sum (fun i _ => ex_nonneg x i) (Finset.mem_univ k)
  have h2 : mass x ≠ ⊤ := by
    unfold mass
    have : ∀ k, ∃ r : ℝ, ex x k = r := fun k =>
      ⟨_, (EReal.coe_toReal (ne_top_of_le_ne_top (EReal.coe_ne_top 1) (ex_le_one h k))
        (ne_bot_of_le_ne_bot (by simp) (ex_nonneg x k))).symm⟩
    choose f hf using this
    simp only [hf]
    rw [sum_coe]
    exact EReal.coe_ne_top _
  have h3 : mass x ≠ ⊥ := ne_bot_of_le_ne_bot (EReal.coe_ne_bot 1) h1
  refine ⟨_, ?_, (EReal.coe_toReal h2 h3).symm⟩
  rw [← EReal.coe_toReal h2 h3] at h1
  exact_mod_cast h1

end

/-! ## The confidence -/

/-- The confidence of a good row. -/
def conf : EReal := Ideal.div 1 (mass x)

theorem div_real (a : EReal) {s : ℝ} (hs : 1 ≤ s) : Ideal.div a (s : EReal) = a * ((s⁻¹ : ℝ) : EReal) := by
  rw [Ideal.div_coe (by linarith)]; simp

theorem conf_bad (h : ¬ Good x) : conf x = ⊤ := by
  rw [conf, mass_bad x h]; simp [Ideal.div]

theorem conf_good (h : Good x) : 0 < conf x ∧ conf x ≤ 1 := by
  obtain ⟨s, hs, e⟩ := mass_good h
  rw [conf, e, div_real 1 hs, one_mul]
  have h1 : 0 < s⁻¹ := inv_pos.mpr (by linarith)
  have h2 : s⁻¹ ≤ 1 := inv_le_one_of_one_le₀ hs
  exact ⟨by exact_mod_cast h1, by exact_mod_cast h2⟩

theorem soft_bad (h : ¬ Good x) (k : Fin 1000) : soft x k = ⊥ := by
  rw [soft, mass_bad x h, ex_bad x h]; simp [Ideal.div]

theorem soft_top (h : Good x) {k : Fin 1000} (hk : x k = top x) : soft x k = conf x := by
  rw [soft, ex_eq_one h hk, conf]

theorem soft_lt (h : Good x) {k : Fin 1000} (hk : x k ≠ top x) : soft x k < conf x := by
  have hl := ex_lt_one h hk
  have h0 := ex_nonneg x k
  obtain ⟨s, hs, e⟩ := mass_good h
  rw [soft, conf, e, div_real _ hs, div_real _ hs]
  have h1 : 0 < s⁻¹ := inv_pos.mpr (by linarith)
  obtain ⟨r, hr⟩ : ∃ r : ℝ, ex x k = r := ⟨_, (EReal.coe_toReal (ne_top_of_lt hl) (ne_bot_of_le_ne_bot (by simp) h0)).symm⟩
  rw [hr] at hl ⊢
  have hl' : r < 1 := by exact_mod_cast hl
  rw [one_mul, ← EReal.coe_mul, EReal.coe_lt_coe_iff]
  nlinarith

theorem soft_le (h : Good x) (k : Fin 1000) : soft x k ≤ conf x := by
  by_cases hk : x k = top x
  · exact (soft_top x h hk).le
  · exact (soft_lt x h hk).le

theorem soft_nonneg (h : Good x) (k : Fin 1000) : 0 ≤ soft x k := by
  obtain ⟨s, hs, e⟩ := mass_good h
  rw [soft, e, div_real _ hs]
  have h1 : 0 ≤ s⁻¹ := inv_nonneg.mpr (by linarith)
  exact mul_nonneg (ex_nonneg x k) (by exact_mod_cast h1)

/-- The greatest softmax of a good row is its confidence; -/
theorem sup_soft_good (h : Good x) : Finset.univ.sup (soft x) = conf x := by
  obtain ⟨k, hk⟩ := exists_top x
  exact le_antisymm (Finset.sup_le fun k _ => soft_le x h k)
    ((soft_top x h hk).symm.le.trans (Finset.le_sup (Finset.mem_univ k)))
/-- that of a bad row is below everything. -/
theorem sup_soft_bad (h : ¬ Good x) : Finset.univ.sup (soft x) = ⊥ := by
  rw [Finset.sup_eq_bot_iff]
  exact fun k _ => soft_bad x h k

/-! ## The first place of the maximum -/

/-- The place as the kernel finds it: the least word among the columns holding the maximum. -/
def first : BitVec 32 :=
  Finset.univ.fold IntOp.minsi 2147483647#32 fun k : Fin 1000 => if x k = top x then BitVec.ofNat 32 k else 1000#32

theorem toInt_minsi (a b : BitVec 32) : (IntOp.minsi a b).toInt = min a.toInt b.toInt := by
  unfold IntOp.minsi
  split <;> rename_i hc <;> simp [BitVec.slt, BitVec.sle] at hc <;> omega

theorem toInt_fold_minsi {ι : Type} (s : Finset ι) (f : ι → BitVec 32) (b : BitVec 32) :
    (s.fold IntOp.minsi b f).toInt = s.fold min b.toInt fun i => (f i).toInt := by
  classical
  induction s using Finset.induction_on with
  | empty => rfl
  | insert a s ha ih => rw [Finset.fold_insert ha, Finset.fold_insert ha, toInt_minsi, ih]

theorem toInt_col (k : Fin 1000) : (BitVec.ofNat 32 k).toInt = (k : ℤ) := by
  rw [BitVec.toInt_eq_toNat_of_lt] <;> rw [BitVec.toNat_ofNat] <;> have := k.isLt <;> omega

/-- `first` is the least column holding the maximum. -/
theorem first_eq {k : Fin 1000} (hk : x k = top x) (hmin : ∀ j, x j = top x → k ≤ j) : first x = BitVec.ofNat 32 k := by
  apply BitVec.eq_of_toInt_eq
  rw [first, toInt_fold_minsi, toInt_col]
  apply le_antisymm
  · refine (Finset.fold_min_le _).mpr (Or.inr ⟨k, Finset.mem_univ _, ?_⟩)
    rw [if_pos hk, toInt_col]
  · refine (Finset.le_fold_min _).mpr ⟨?_, fun j _ => ?_⟩
    · have := k.isLt
      have e : (2147483647#32).toInt = 2147483647 := by decide
      omega
    · split
      · rename_i hj
        rw [toInt_col]
        exact_mod_cast hmin j hj
      · have := k.isLt
        have e : (1000#32).toInt = 1000 := by decide
        omega

/-! ## What a row adds to the bins -/

/-- One where the predicted class is the label. -/
def hit (l : BitVec 32) : EReal := by
  classical exact if first x = l then 1 else 0

/-- What a row adds to the first bin: itself to the count, its confidence, its accuracy. -/
def gain (r : Fin 3) (l : BitVec 32) : EReal := by
  classical exact if Good x then (if r = 0 then 1 else if r = 1 then conf x else hit x l) else 0

/-- The sum of what all rows add. -/
def total (X : Fin 16384 → Fin 1000 → EReal) (Y : Fin 16384 → BitVec 32) (r : Fin 3) : EReal := ∑ i, gain (X i) r (Y i)

/-- A bin's term from its count, its summed confidence and its summed accuracy. -/
def ece (T : Fin 3 → EReal) : EReal :=
  FloatOps.absf (F := Ideal) (φ := .f32) (Ideal.div (T 1) (max (T 0) 1) - Ideal.div (T 2) (max (T 0) 1))
    * Ideal.div (T 0) (Ideal.ofBits .f32 0x46800000#32)

/-- The number of rows, as a float word. -/
theorem ofBits_rows : Ideal.ofBits .f32 0x46800000#32 = ((16384 : ℝ) : EReal) := by
  simp [Ideal.ofBits, Ideal.ieee, -EReal.coe_mul]; norm_num

theorem div_rows_zero : Ideal.div 0 (Ideal.ofBits .f32 0x46800000#32) = 0 := by
  rw [ofBits_rows, div_real 0 (by norm_num), zero_mul]

/-! ## The bounds -/

theorem ofBits_neg_inf : Ideal.ofBits .f32 0xFF800000#32 = ⊥ := by
  simp [Ideal.ofBits, Ideal.ieee]

theorem fold_max_bot {n : ℕ} (f : Fin n → EReal) :
    Finset.univ.fold max (Ideal.ofBits .f32 0xFF800000#32) f = Finset.univ.sup f := by
  rw [ofBits_neg_inf]; rfl

theorem one_le_round {r : ℝ} (h : 1 ≤ r) : 1 ≤ Ideal.roundHalfEven r := by
  have hf : (1 : ℤ) ≤ ⌊r⌋ := Int.le_floor.mpr (by exact_mod_cast h)
  unfold Ideal.roundHalfEven
  dsimp only
  split
  · exact hf
  · split
    · omega
    · split <;> omega

theorem round_zero : Ideal.roundHalfEven 0 = 0 := by
  simp [Ideal.roundHalfEven]

end Cert.Proof.Row
end
-- ==== Proof.KernelIdealValue.lean ====
/-
  The kernel's value over the extended reals: what one block of rows adds to the accumulator, the accumulator
  after the last trip, and the result.
-/
module

public import proofs.«01_k».proof.Proof.KernelIdealLoop
public import proofs.«01_k».proof.Proof.Row
public import Idealize.ShloMosaic.Lib.Pointwise
public import Idealize.ShloMosaic.Lib.IdealHost

@[expose] public section

set_option maxRecDepth 16384

noncomputable section

namespace Cert.Proof.KernelIdeal

open Cert.KernelIdeal Cert.KernelIdeal.Gen Cert.KernelIdeal.Facts₀
open Idealize.ShloMosaic Idealize.ShloMosaic.TcCoe
open Cert.Proof Cert.Proof.Row

section
variable {F : FTy → Type} [FloatOps F] (x : Vec F S512x1000 .f32) (y : Vec F S512x1 .i32) (a : Vec F S3x16 .f32)
/-- The four printed forms of a block's step are one function. -/
theorem step1_eq : step1 x y a = step0 x y a := rfl
theorem step2_eq : step2 x y a = step0 x y a := rfl
theorem step3_eq : step3 x y a = step0 x y a := rfl
end

/-! ## A block's step -/

section
variable (x : Vec Ideal S512x1000 .f32) (y : Vec Ideal S512x1 .i32) (a : Vec Ideal S3x16 .f32)

/-- Row `k` of a block. -/
abbrev rowOf (k : Fin 512) : Fin 1000 → EReal := fun j => x (ix2 k j)

/-- The scale of the bounds. -/
theorem ofBits_scale : Ideal.ofBits .f32 0x44888889#32 = ((8947849 / 8192 : ℝ) : EReal) := by
  simp [Ideal.ofBits, Ideal.ieee, -EReal.coe_mul]; norm_num

/-- A bin's lower bound; -/
def lo (b : Fin 16) : EReal :=
  Ideal.liftRound Ideal.roundHalfEven (FloatOps.sitofp (F := Ideal) FTy.f32 (BitVec.ofNat 32 b) * Ideal.ofBits FTy.f32 0x44888889#32)
/-- its upper bound. -/
def up (b : Fin 16) : EReal :=
  Ideal.liftRound Ideal.roundHalfEven ((FloatOps.sitofp (F := Ideal) FTy.f32 (BitVec.ofNat 32 b) + 1) * Ideal.ofBits FTy.f32 0x44888889#32)

theorem sitofp_col (b : Fin 16) : FloatOps.sitofp (F := Ideal) FTy.f32 (BitVec.ofNat 32 b) = ((b.val : ℝ) : EReal) := by
  show (((BitVec.ofNat 32 b).toInt : ℝ) : EReal) = _
  rw [show (BitVec.ofNat 32 b).toInt = (b.val : ℤ) by
    rw [BitVec.toInt_eq_toNat_of_lt] <;> rw [BitVec.toNat_ofNat] <;> have := b.isLt <;> omega]
  norm_cast

theorem lo_zero : lo 0 = 0 := by
  rw [lo, sitofp_col, ofBits_scale, ← EReal.coe_mul, Ideal.liftRound_coe]
  simp [Row.round_zero]

theorem lo_pos {b : Fin 16} (hb : b ≠ 0) : 1 ≤ lo b := by
  rw [lo, sitofp_col, ofBits_scale, ← EReal.coe_mul, Ideal.liftRound_coe]
  have h1 : 1 ≤ b.val := Nat.one_le_iff_ne_zero.mpr fun h => hb (Fin.ext h)
  have h2 : (1 : ℝ) ≤ b.val := by exact_mod_cast h1
  have := Row.one_le_round (r := b.val * (8947849 / 8192)) (by nlinarith)
  exact_mod_cast this

theorem up_eq (b : Fin 16) : up b = ((Ideal.roundHalfEven ((b.val + 1) * (8947849 / 8192)) : ℝ) : EReal) := by
  rw [up, sitofp_col, ofBits_scale]
  have e : ((b.val : ℝ) : EReal) + 1 = ((b.val + 1 : ℝ) : EReal) := by push_cast; rfl
  rw [e, ← EReal.coe_mul, Ideal.liftRound_coe]

theorem one_le_up : 1 ≤ up 0 := by
  rw [up_eq]
  have := Row.one_le_round (r := ((0 : Fin 16).val + 1) * (8947849 / 8192)) (by norm_num)
  exact_mod_cast this

/-- A row is counted in the first bin when it is good, and in no other. -/
theorem in_bin_iff (z : Fin 1000 → EReal) (b : Fin 16) : (lo b < Row.conf z ∧ Row.conf z ≤ up b) ↔ (b = 0 ∧ Row.Good z) := by
  by_cases hg : Row.Good z
  · obtain ⟨h0, h1⟩ := Row.conf_good z hg
    constructor
    · rintro ⟨hl, _⟩
      refine ⟨?_, hg⟩
      by_contra hb
      exact absurd (hl.trans_le h1) (not_lt.mpr (lo_pos hb))
    · rintro ⟨rfl, _⟩
      exact ⟨by rw [lo_zero]; exact h0, h1.trans one_le_up⟩
  · rw [Row.conf_bad z hg]
    constructor
    · rintro ⟨_, hu⟩
      exfalso
      rw [up_eq] at hu
      exact EReal.coe_ne_top _ (top_le_iff.mp hu)
    · rintro ⟨_, h⟩
      exact absurd h hg

theorem flag_toInt (p q : Bool) :
    (BitVec.setWidth 32 (IntOp.andi (BitVec.ofBool p) (BitVec.ofBool q))).toInt = if p && q then 1 else 0 := by
  revert p q; decide
/-- An equality read as a float. -/
theorem flag_eq (u v : BitVec 32) :
    FloatOps.sitofp (F := Ideal) FTy.f32 (BitVec.setWidth 32 (IntOp.cmpi CmpIPredicate.eq u v)) = if u = v then (1 : EReal) else 0 := by
  show (((BitVec.setWidth 32 (IntOp.cmpi CmpIPredicate.eq u v)).toInt : ℝ) : EReal) = _
  by_cases h : u = v
  · subst h; simp [IntOp.cmpi]
  · have hb : (u == v) = false := by simpa using h
    simpa [IntOp.cmpi, hb] using h

/-- An integer flag read as a float. -/
theorem flag (p q : Prop) [Decidable p] [Decidable q] :
    FloatOps.sitofp (F := Ideal) FTy.f32 (BitVec.setWidth 32 (IntOp.andi (BitVec.ofBool (decide p)) (BitVec.ofBool (decide q))))
      = if p ∧ q then (1 : EReal) else 0 := by
  show (((BitVec.setWidth 32 (IntOp.andi (BitVec.ofBool (decide p)) (BitVec.ofBool (decide q)))).toInt : ℝ) : EReal) = _
  rw [flag_toInt]
  by_cases hp : p <;> by_cases hq : q <;> simp [hp, hq]

open Classical in
/-- What a row adds to a bin when it is in it. -/
theorem bin_add (z : Fin 1000 → EReal) (b : Fin 16) (w : EReal) (v : EReal) (hv : Row.Good z → w = v) :
    (if lo b < Row.conf z ∧ Row.conf z ≤ up b then (1 : EReal) else 0) * w = if b = 0 then (if Row.Good z then v else 0) else 0 := by
  rw [if_congr (in_bin_iff z b) rfl rfl]
  by_cases hb : b = 0
  · by_cases hg : Row.Good z
    · rw [if_pos ⟨hb, hg⟩, if_pos hb, if_pos hg, one_mul, hv hg]
    · rw [if_neg fun h => hg h.2, if_pos hb, if_neg hg, zero_mul]
  · rw [if_neg fun h => hb h.1, if_neg hb, zero_mul]

theorem conf_apply (k : Fin 512) : k0_pay3 x (ix2 k 0) = Row.conf (rowOf x k) := by
  unfold k0_pay3 k0_pay2
  pointwise
  simp only [fold_max_bot]
  rfl
theorem hit_apply (k : Fin 512) : k0_pay4 x y (ix2 k 0) = Row.hit (rowOf x k) (y (ix2 k 0)) := by
  unfold k0_pay4 k0_pay2
  pointwise
  simp only [fold_max_bot]
  show FloatOps.sitofp (F := Ideal) FTy.f32 (BitVec.setWidth 32 (IntOp.cmpi CmpIPredicate.eq (Row.first (rowOf x k)) (y (ix2 k 0)))) = _
  unfold Row.hit
  rw [flag_eq]
theorem lo_apply (k : Fin 512) (b : Fin 16) : k0_pay8 (F := Ideal) (ix2 k b) = lo b := by
  unfold k0_pay8 k0_pay5
  pointwise
  rfl
theorem up_apply (b : Fin 16) : k0_pay6 (F := Ideal) (ix2 0 b) = up b := by
  unfold k0_pay6 k0_pay5
  pointwise
  rfl

theorem step0_apply (r : Fin 3) (b : Fin 16) :
    step0 x y a (ix2 r b) = a (ix2 r b) + if b = 0 then ∑ k, Row.gain (rowOf x k) r (y (ix2 k 0)) else 0 := by
  unfold step0 k0_pay9
  pointwise
  unfold k0_pay7
  pointwise
  simp only [conf_apply, hit_apply, lo_apply, up_apply, flag, in_bin_iff]
  have hsum : ∀ g : Fin 512 → EReal, (∀ k, g k = if b = 0 then Row.gain (rowOf x k) r (y (ix2 k 0)) else 0) →
      ∑ k, g k = if b = 0 then ∑ k, Row.gain (rowOf x k) r (y (ix2 k 0)) else 0 := fun g hg => by
    rw [Finset.sum_congr rfl fun k _ => hg k]
    by_cases hb : b = 0 <;> simp [hb]
  have hr : ∀ r : Fin 3, r = 0 ∨ r = 1 ∨ r = 2 := by decide
  rcases hr r with rfl | rfl | rfl
  · rw [dif_pos (by decide)]
    refine congrArg _ (hsum _ fun k => ?_)
    refine (mul_one _).symm.trans ((bin_add _ b 1 1 fun _ => rfl).trans ?_)
    simp [Row.gain]
  · rw [dif_neg (by decide), dif_pos (by decide)]
    refine congrArg _ (hsum _ fun k => ?_)
    refine (bin_add _ b _ _ fun _ => rfl).trans ?_
    simp [Row.gain]
  · rw [dif_neg (by decide), dif_neg (by decide)]
    refine congrArg _ (hsum _ fun k => ?_)
    refine (bin_add _ b _ _ fun _ => rfl).trans ?_
    simp [Row.gain]
end

/-! ## The accumulator -/

section
variable (c : Dev nD) (X : Buf (Elt Ideal) (xM.view.loc (c : Thread nD τ))) (Y : Buf (Elt Ideal) (yM.view.loc (c : Thread nD τ)))

/-- What row `n` adds; nothing past the last row. -/
def add (r : Fin 3) (n : ℕ) : EReal :=
  if h : n < 16384 then Row.gain (fun j => X (ix2 (⟨n, h⟩ : Fin 16384) j)) r (Y (ix2 (⟨n, h⟩ : Fin 16384) 0)) else 0

theorem xpay_apply (q : Fin 8) (t : Fin 4) (k : Fin 512) (j : Fin 1000) :
    xpay c X q t (ix2 k j) = X (ix2 (⟨2048 * q + 512 * t + k, by omega⟩ : Fin 16384) j) := by
  refine congrArg X (funext fun a => Fin.ext ?_)
  match a with
  | ⟨0, _⟩ => show blkOff q t 0 + 1 * k.val = _; unfold blkOff; simp
  | ⟨1, _⟩ => show blkOff q t 1 + 1 * j.val = _; unfold blkOff; simp
theorem ypay_apply (q : Fin 8) (t : Fin 4) (k : Fin 512) :
    ypay c Y q t (ix2 k 0) = Y (ix2 (⟨2048 * q + 512 * t + k, by omega⟩ : Fin 16384) 0) := by
  refine congrArg Y (funext fun a => Fin.ext ?_)
  match a with
  | ⟨0, _⟩ => show blkOff q t 0 + 1 * k.val = _; unfold blkOff; simp
  | ⟨1, _⟩ => show blkOff q t 1 + 1 * 0 = _; unfold blkOff; simp

theorem block_sum (r : Fin 3) (q : Fin 8) (t : Fin 4) :
    ∑ k, Row.gain (rowOf (xpay c X q t) k) r (ypay c Y q t (ix2 k 0))
      = ∑ i ∈ Finset.range 512, add c X Y r (2048 * q + 512 * t + i) := by
  rw [Finset.sum_range]
  refine Finset.sum_congr rfl fun k _ => ?_
  unfold add
  rw [dif_pos (by omega), ypay_apply]
  congr 1
  funext j
  exact xpay_apply c X q t k j

theorem quadStep_apply (q : Fin 8) (a : Vec Ideal S3x16 .f32) (r : Fin 3) (b : Fin 16) :
    quadStep c X Y q a (ix2 r b)
      = a (ix2 r b) + if b = 0 then ∑ i ∈ Finset.range 2048, add c X Y r (2048 * q + i) else 0 := by
  unfold quadStep
  rw [step3_eq, step2_eq, step1_eq, step0_apply, step0_apply, step0_apply, step0_apply, block_sum, block_sum, block_sum, block_sum]
  by_cases hb : b = 0
  · simp only [hb, if_true]
    rw [show 2048 = 512 + 512 + 512 + 512 from rfl, Finset.sum_range_add, Finset.sum_range_add, Finset.sum_range_add]
    simp only [Fin.isValue, Fin.val_zero, Fin.val_one, Fin.val_two, add_assoc, Nat.reduceAdd, Nat.reduceMul, mul_zero, zero_add]
    rfl
  · simp [hb]

theorem accAt_apply (k : ℕ) (hk : k ≤ 8) (r : Fin 3) (b : Fin 16) :
    accAt c X Y (k0_pay26 (F := Ideal)) k (ix2 r b) = if b = 0 then ∑ i ∈ Finset.range (2048 * k), add c X Y r i else 0 := by
  induction k with
  | zero =>
    show k0_pay26 (F := Ideal) (ix2 r b) = _
    unfold k0_pay26
    pointwise
    simp
  | succ k ih =>
    rw [accAt_succ, quadStep_apply, ih (by omega), show (Ring.bk 8 k).val = k from Nat.mod_eq_of_lt (by omega), Nat.mul_succ, Finset.sum_range_add]
    by_cases hb : b = 0 <;> simp [hb]

/-- The sum over all rows. -/
abbrev tot (r : Fin 3) : EReal := Row.total (fun i j => X (ix2 i j)) (fun i => Y (ix2 i 0)) r

theorem acc_final (r : Fin 3) (b : Fin 16) :
    accAt c X Y (k0_pay26 (F := Ideal)) 8 (ix2 r b) = if b = 0 then tot c X Y r else 0 := by
  rw [accAt_apply c X Y 8 le_rfl, show 2048 * 8 = 16384 from rfl, Finset.sum_range]
  have e : ∀ i : Fin 16384, add c X Y r i = Row.gain (fun j => X (ix2 i j)) r (Y (ix2 i 0)) := fun i => dif_pos i.isLt
  rw [Finset.sum_congr rfl fun i _ => e i]
  rfl

/-- The kernel's result is the first bin's term. -/
theorem outVal_tot : outVal c X Y = Row.ece (tot c X Y) := by
  unfold outVal k0_pay1 k0_pay30 k0_pay31 k0_pay32 k0_pay29 k0_pay28
  have hA := acc_final c X Y
  generalize accAt c X Y (k0_pay26 (F := Ideal)) 8 = A at hA ⊢
  pointwise
  simp only [hA]
  rw [Fin.sum_univ_one, Finset.sum_eq_single (0 : Fin 16)]
  · simp only [if_true]; rfl
  · intro b _ hb
    simp only [if_neg hb]
    rw [Row.div_rows_zero, mul_zero]
  · intro h; exact absurd (Finset.mem_univ _) h
end

end Cert.Proof.KernelIdeal
end
-- ==== Proof.KernelIdealResult.lean ====
/-
  The kernel's result, read off its run over the extended reals: the first bin's term over all rows.
-/
module

public import proofs.«01_k».proof.Proof.KernelIdealRun
public import proofs.«01_k».proof.Proof.KernelIdealValue

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof

section
variable {F : FTy → Type} [FloatOps F] (m : (ℓ : Loc nD τ sig) → Buf (Elt F) ℓ)

/-- The result array as the run leaves it. -/
def resultOf (c : Dev nD) : Buf (Elt F) ((c : Thread nD τ).loc main_v0) := fun _ => outVal c (XA m c) (YA m c)

theorem fin_N0 (t : Fin cfg0.N) : t = t0_0 := Fin.ext (by have := t.isLt; have h : cfg0.N = 1 := N_0; omega)

theorem flushed_eq (c : Dev nD) (t : Fin cfg0.N) :
    (dats m 0 c).flushed 0 t = ((cfg0.win 0).blk t).view.read (Elt F) (resultOf m c) := by
  unfold Pipeline.Dat.flushed
  rw [after_w0]
  rfl

theorem cover (i : S1.Idx) : ∃ t : Fin cfg0.N, (cfg0.win 0).flush t = true ∧ i ∈ ((cfg0.win 0).blk t).view.set := by
  refine ⟨t0_0, flush0_0 _, ?_⟩
  show i ∈ ((View.whole main_v0).slice (win0_0.rect t0_0)).set
  rw [View.set_slice_whole, Rect.mem_set_unit]
  intro a
  match a with
  | ⟨0, _⟩ =>
    have h0 : (i 0).val < 1 := (i 0).isLt
    show 0 * 1 ≤ (i 0).val ∧ (i 0).val < 0 * 1 + 1
    omega

/-- The whole result holds the body's value. -/
theorem arr_result (c : Dev nD) : (dats m 0 c).arrAt 0 cfg0.N = resultOf m c :=
  (dats m 0 c).arrAt_eq_of_cover 0 (resultOf m c) (fun t _ => flushed_eq m c t) cover

/-- The labels as the launch finds them are the second argument's words. -/
theorem YA_apply (c : Dev nD) (i : Fin 16384) : YA m c (ix2 i 0) = m ((c : Thread nD τ).loc main_arg1) (ix1 i) := by
  have e : YA m c = shapeCast S16384x1 (m ((c : Thread nD τ).loc main_arg1)) shapeCasts_S16384_S16384x1 := by
    show StableHlo.after hostOps0 (fun b => m (c, b)) (Proc.devRef .tc main_call0_v0) = _
    dsimp only [hostOps0, List.flatten, List.append]
    after_results
    rfl
  rw [e]
  pointwise
end

variable (m : (ℓ : Loc nD τ sig) → Buf (Elt Ideal) ℓ)

/-- Row `i` of the logits. -/
abbrev rows (c : Dev nD) (i : Fin 16384) : Fin 1000 → EReal := fun j => m ((c : Thread nD τ).loc main_arg0) (ix2 i j)
abbrev labels (c : Dev nD) (i : Fin 16384) : BitVec 32 := m ((c : Thread nD τ).loc main_arg1) (ix1 i)

/-- The kernel ends with its result at the first bin's term and its arguments unchanged. -/
theorem run_value (ρ : Dev nD → PrngReg) : θ_run defs (onTc (τ := τ) (main (F := Ideal))) (s₀ m ρ) fun r =>
    ∀ c : Dev nD, r.2.mem ((c : Thread nD τ).loc main_v0) = (fun _ => Row.ece (Row.total (rows m c) (labels m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by
    refine ((h.1 c).1 0).trans ((arr_result m c).trans ?_)
    unfold resultOf
    rw [outVal_tot]
    have e : (fun i : Fin 16384 => YA m c (ix2 i 0)) = labels m c := funext (YA_apply m c)
    show (fun _ => Row.ece (Row.total _ (fun i : Fin 16384 => YA m c (ix2 i 0)))) = _
    rw [e, show XA m c = m ((c : Thread nD τ).loc main_arg0) from V_main_arg0 m c], (h.1 c).2⟩) (run_main m ρ)

end Cert.Proof.KernelIdeal
end
-- ==== Proof.ReferencePrefix.lean ====
/-
  The reference's values before its bins: the bounds, the softmax, each row's confidence, its predicted class and
  whether that is the label.
-/
module

public import proofs.«01_k».proof.Proof.ReferenceRun

@[expose] public section

set_option maxRecDepth 16384

noncomputable section

namespace Cert.Proof.ReferenceIdeal

open Cert.ReferenceIdeal Cert.Proof.HostLine
open Cert.ReferenceIdeal.Facts₀
open Idealize.ShloMosaic Idealize.ShloMosaic.StableHlo Idealize.SL.Sem

variable {F : FTy → Type} [FloatOps F]

abbrev tX : BufTy := ⟨S16384x1000, .f32⟩
abbrev tY : BufTy := ⟨S16384, .i32⟩
abbrev tB : BufTy := ⟨S15, .f32⟩
abbrev tB1 : BufTy := ⟨S16, .f32⟩

/-- The places of the first fifteen boundaries: `i / 15`. -/
def fraction : BufTy.Contents (Elt F) tB :=
  Host.divf (sitofp .f32 (iotaInDim S15 32 0)) (broadcastInDim S15 ![] bcast_S_S15 (constant S_ .f32 0x41700000#32))

/-- Sixteen places from zero to one. -/
def places : BufTy.Contents (Elt F) tB1 :=
  concatenate S16 0
    [⟨S15, addf
      (mulf (broadcastInDim S15 ![0] bcast_S1_S15_0 (shapeCast S1 (constant S_ .f32 0x00000000#32) shapeCasts_S_S1))
        (subf (broadcastInDim S15 ![] bcast_S_S15 (constant S_ .f32 0x3F800000#32)) fraction))
      (mulf (broadcastInDim S15 ![0] bcast_S1_S15_0 (shapeCast S1 (constant S_ .f32 0x3F800000#32) shapeCasts_S_S1)) fraction)⟩,
     ⟨S1, broadcastInDim S1 ![] bcast_S_S1 (constant S_ .f32 0x3F800000#32)⟩] concatenates_S15_S1_S16_d0

/-- The boundaries: the places times the number of rows, rounded. -/
def bounds : BufTy.Contents (Elt F) tB1 :=
  Host.roundeven (mulf places (broadcastInDim S16 ![] bcast_S_S16 (constant S_ .f32 0x46800000#32)))

/-- The greatest entry of each row. -/
def tops (X : BufTy.Contents (Elt F) tX) : BufTy.Contents (Elt F) tV :=
  Host.reduce FloatOps.maximumf X (constant S_ .f32 0xFF800000#32) reducesTo_S16384x1000_S16384_d1 h_S_

/-- The exponentials of a row, its greatest entry subtracted first. -/
def exps (X : BufTy.Contents (Elt F) tX) : BufTy.Contents (Elt F) tX :=
  Host.exp (subf X (broadcastInDim S16384x1000 ![0, 1] bcast_S16384x1_S16384x1000_0_1
    (broadcastInDim S16384x1 ![0] bcast_S16384_S16384x1_0
      (maximumf (broadcastInDim S16384 ![] bcast_S_S16384 (constant S_ .f32 0xFF800000#32))
        (tops X)))))

/-- The softmax. -/
def softs (X : BufTy.Contents (Elt F) tX) : BufTy.Contents (Elt F) tX :=
  Host.divf (exps X) (broadcastInDim S16384x1000 ![0, 1] bcast_S16384x1_S16384x1000_0_1
    (broadcastInDim S16384x1 ![0] bcast_S16384_S16384x1_0
      (Host.reduceAdd (exps X) (constant S_ .f32 0x00000000#32) reducesTo_S16384x1000_S16384_d1 h_S_)))

/-- The confidences: each row's greatest softmax. -/
def confs (X : BufTy.Contents (Elt F) tX) : BufTy.Contents (Elt F) tV :=
  tops (softs X)

/-- Where each row is greatest, by the arg-max. -/
def argmax (S : FVec F S16384x1000 .f32) : IVec S16384 32 := fun j =>
  (Host.argReduce (s := S16384x1000) (φ := .f32) reducer_argmax_f32_i32 S (iotaInDim S16384x1000 32 1) (constant S_ .f32 0xFF800000#32) (constantI S_ 32 0#32)
    reducesTo_S16384x1000_S16384_d1 h_S_ j).2

/-- The predicted classes: where each row's softmax is greatest. -/
def preds (X : BufTy.Contents (Elt F) tX) : BufTy.Contents (Elt F) tY := argmax (softs X)

/-- Where the predicted class is the label. -/
def hits (X : BufTy.Contents (Elt F) tX) (Y : BufTy.Contents (Elt F) tY) : BufTy.Contents (Elt F) tM := cmpi .eq (preds X) Y

variable {W : Valuation τ sig (Elt F)} (hW : ∀ op ∈ ops (F := F), op.result W = W)

section
attribute [local irreducible] Host.reduce Host.reduceAdd Host.argReduce concatenate

include hW in
/-- What the buffers hold before the bins. -/
theorem get_pre :
    get W rLo = extractStridedSlice S15 ![0] bounds slices_S16_S15_0
      ∧ get W rUp = extractStridedSlice S15 ![1] bounds slices_S16_S15_1
      ∧ get W rConf = confs (get W (.of main_arg0 : TRef sig tX))
      ∧ get W rHit = hits (get W (.of main_arg0 : TRef sig tX)) (get W (.of main_arg1 : TRef sig tY))
      ∧ get W (tot 0) = broadcastInDim S1 ![] bcast_S_S1 (constant S_ .f32 0x00000000#32) := by
  have hF : (preOps (F := F)).Forall fun op => op.result W = W :=
    List.forall_iff_forall_mem.mpr fun op ho => hW op (pre_mem ho)
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52⟩ := hF
  have e0 := get_nullary h0
  have e1 := get_nullary h1
  have e2 := get_unary h2
  have e3 := get_unary h3
  have e4 := get_binary h4
  have e5 := get_nullary h5
  have e6 := get_binary h6
  have e7 := get_nullary h7
  have e8 := get_nullary h8
  have e9 := get_unary h9
  have e10 := get_binary h10
  have e11 := get_reshape h11
  have e12 := get_nullary h12
  have e13 := get_unary h13
  have e14 := get_binary h14
  have e15 := get_unary h15
  have e16 := get_binary h16
  have e17 := get_reshape h17
  have e18 := get_unary h18
  have e19 := get_binary h19
  have e20 := get_binary h20
  have e21 := get_unary h21
  have e22 := get_binary h22
  have e23 := get_nullary h23
  have e24 := get_unary h24
  have e25 := get_binary h25
  have e26 := get_unary h26
  have e27 := get_unary h27
  have e28 := get_unary h28
  have e29 := get_nullary h29
  have e30 := get_binary h30
  have e31 := get_nullary h31
  have e32 := get_unary h32
  have e33 := get_binary h33
  have e34 := get_unary h34
  have e35 := get_unary h35
  have e36 := get_binary h36
  have e37 := get_unary h37
  have e38 := get_nullary h38
  have e39 := get_binary h39
  have e40 := get_unary h40
  have e41 := get_unary h41
  have e42 := get_binary h42
  have e43 := get_nullary h43
  have e44 := get_binary h44
  have e45 := get_nullary h45
  have e46 := get_nullary h46
  have e47 := get_nullary h47
  have e48 := get_quaternary h48
  have e49 := get_quaternary h49
  have e50 := get_binary h50
  have e51 := get_nullary h51
  have e52 := get_unary h52
  have eb : get W (.of main_v3 : TRef sig tB1) = bounds := by
    rw [e26, e25, e24, e23, e22, e21, e20, e19, e18, e17, e16, e15, e14, e13, e12, e11, e10, e9, e8, e7, e3, e2, e1, e0]
    rfl
  have ee : get W (.of main_v12 : TRef sig tX) = exps (get W (.of main_arg0 : TRef sig tX)) := by
    rw [e37, e36, e35, e34, e33, e32, e31, e30, e29]
    rfl
  have es : get W (.of main_v16 : TRef sig tX) = softs (get W (.of main_arg0 : TRef sig tX)) := by
    rw [e42, e41, e40, e39, e38, ee]
    rfl
  refine ⟨?_, ?_, ?_, ?_, ?_⟩
  · rw [e27, eb]
  · rw [e28, eb]
  · rw [e44, e43, es]
    rfl
  · rw [e50, e49, e47, e46, e45, es]
    rfl
  · rw [show get W (tot 0) = _ from e52, e51]

end

end Cert.Proof.ReferenceIdeal
end
-- ==== Proof.ReferenceValue.lean ====
/-
  The reference's softmax, confidences and boundaries at the extended reals.
-/
module

public import proofs.«01_k».proof.Proof.ReferencePrefix
public import proofs.«01_k».proof.Proof.Row
public import Idealize.ShloMosaic.Lib.Pointwise
public import Idealize.ShloMosaic.Lib.IdealHost

@[expose] public section

set_option maxRecDepth 16384

noncomputable section

namespace Cert.Proof.ReferenceIdeal

open Cert.ReferenceIdeal Cert.Proof.HostLine
open Cert.ReferenceIdeal.Facts₀
open Idealize.ShloMosaic Idealize.ShloMosaic.StableHlo Idealize.SL.Sem
open Cert.Proof.Row (fold_max_bot)

/-! ## The softmax -/

section
variable (X : BufTy.Contents (Elt Ideal) tX) (i : Fin 16384)

/-- A row of the input. -/
abbrev rowOf (i : Fin 16384) : Fin 1000 → EReal := fun j => X (ix2 i j)

theorem tops_apply : tops X (ix1 i) = Row.top (rowOf X i) := by
  unfold tops
  pointwise
  simp only [fold_max_bot]
  rfl

theorem floor_apply (M : BufTy.Contents (Elt Ideal) tV) :
    maximumf (broadcastInDim S16384 ![] bcast_S_S16384 (constant (F := Ideal) S_ .f32 0xFF800000#32)) M (ix1 i) = M (ix1 i) := by
  pointwise
  rw [Row.ofBits_neg_inf, max_bot_left]

theorem peaks_apply : maximumf (broadcastInDim S16384 ![] bcast_S_S16384 (constant S_ .f32 0xFF800000#32)) (tops X) (ix1 i)
    = Row.top (rowOf X i) := (floor_apply i (tops X)).trans (tops_apply X i)

theorem exps_apply (k : Fin 1000) : exps X (ix2 i k) = Row.ex (rowOf X i) k := by
  have hM := peaks_apply X i
  unfold exps
  generalize maximumf (broadcastInDim S16384 ![] bcast_S_S16384 (constant S_ .f32 0xFF800000#32)) (tops X) = M at hM ⊢
  pointwise
  rw [hM]
  rfl

theorem softs_apply (k : Fin 1000) : softs X (ix2 i k) = Row.soft (rowOf X i) k := by
  unfold softs
  pointwise
  simp only [exps_apply]
  rfl

theorem confs_apply : confs X (ix1 i) = Finset.univ.sup (Row.soft (rowOf X i)) := by
  unfold confs
  rw [tops_apply]
  unfold Row.top rowOf
  simp only [softs_apply]
end

/-! ## The boundaries -/

theorem ofBits_fifteen : Ideal.ofBits .f32 0x41700000#32 = ((15 : ℝ) : EReal) := by
  simp [Ideal.ofBits, Ideal.ieee, -EReal.coe_mul]; norm_num

theorem fraction_apply (b : Fin 15) : fraction (F := Ideal) (ix1 b) = ((b.val / 15 : ℝ) : EReal) := by
  unfold fraction
  pointwise
  have e : (FloatOps.sitofp (F := Ideal) FTy.f32 (BitVec.ofNat 32 b.val) : EReal) = ((b.val : ℝ) : EReal) := by
    show (((BitVec.ofNat 32 b.val).toInt : ℝ) : EReal) = _
    rw [show (BitVec.ofNat 32 b.val).toInt = (b.val : ℤ) from by
      revert b; decide]
    simp
  rw [ofBits_fifteen]
  refine (congrArg (fun z => Ideal.div z ((15 : ℝ) : EReal)) e).trans ?_
  rw [Row.div_real _ (by norm_num), ← EReal.coe_mul, div_eq_mul_inv]

theorem places_apply (b : Fin 16) : places (F := Ideal) (ix1 b) = ((b.val / 15 : ℝ) : EReal) := by
  unfold places
  pointwise
  split
  · rw [fraction_apply, zero_mul, zero_add]
  · have hb : b.val = 15 := by have := b.isLt; omega
    rw [hb]
    norm_num

theorem bounds_apply (b : Fin 16) : bounds (F := Ideal) (ix1 b) = ((Ideal.roundHalfEven (b.val / 15 * 16384) : ℝ) : EReal) := by
  unfold bounds
  pointwise
  rw [places_apply, Row.ofBits_rows, ← EReal.coe_mul, Ideal.liftRound_coe]

theorem bounds_zero : bounds (F := Ideal) (ix1 0) = 0 := by
  rw [bounds_apply]
  simp [Row.round_zero]

theorem one_le_bounds {b : Fin 16} (hb : b ≠ 0) : 1 ≤ bounds (F := Ideal) (ix1 b) := by
  rw [bounds_apply]
  have h1 : 1 ≤ b.val := Nat.one_le_iff_ne_zero.mpr fun h => hb (Fin.ext h)
  have h2 : (1 : ℝ) ≤ b.val := by exact_mod_cast h1
  have h3 : (1 : ℝ) ≤ (Ideal.roundHalfEven (b.val / 15 * 16384) : ℤ) := by
    exact_mod_cast Row.one_le_round (r := b.val / 15 * 16384) (by nlinarith)
  rw [← EReal.coe_one]
  exact EReal.coe_le_coe_iff.mpr h3

/-- The lower bounds. -/
abbrev lows : BufTy.Contents (Elt Ideal) tB := extractStridedSlice S15 ![0] bounds slices_S16_S15_0
/-- The upper bounds. -/
abbrev highs : BufTy.Contents (Elt Ideal) tB := extractStridedSlice S15 ![1] bounds slices_S16_S15_1

theorem lows_apply (b : Fin 15) : lows (ix1 b) = bounds (F := Ideal) (ix1 b.castSucc) := by
  unfold lows
  pointwise
  rfl

theorem highs_apply (b : Fin 15) : highs (ix1 b) = bounds (F := Ideal) (ix1 b.succ) := by
  unfold highs
  pointwise
  refine congrArg (fun z => bounds (F := Ideal) (ix1 z)) (Fin.ext ?_)
  simp [Nat.add_comm]

/-- A row is in the first bin when it is good, and in no other. -/
theorem in_bin_iff (x : Fin 1000 → EReal) (b : Fin 15) :
    (lows (ix1 b) < Finset.univ.sup (Row.soft x) ∧ Finset.univ.sup (Row.soft x) ≤ highs (ix1 b)) ↔ (b = 0 ∧ Row.Good x) := by
  rw [lows_apply, highs_apply]
  by_cases hg : Row.Good x
  · rw [Row.sup_soft_good x hg]
    obtain ⟨h0, h1⟩ := Row.conf_good x hg
    constructor
    · rintro ⟨hl, _⟩
      refine ⟨?_, hg⟩
      by_contra hb
      have hb' : b.castSucc ≠ 0 := fun h => hb (Fin.castSucc_eq_zero_iff.mp h)
      exact absurd (hl.trans_le h1) (not_lt.mpr (one_le_bounds hb'))
    · rintro ⟨rfl, _⟩
      exact ⟨lt_of_eq_of_lt bounds_zero h0, h1.trans (one_le_bounds (Fin.succ_ne_zero 0))⟩
  · rw [Row.sup_soft_bad x hg]
    exact ⟨fun h => absurd h.1 not_lt_bot, fun h => absurd h.2 hg⟩

end Cert.Proof.ReferenceIdeal
end
-- ==== Proof.ReferenceArgmax.lean ====
/-
  The reference's arg-max at the extended reals: on a good row it gives the first column where the row is greatest.
-/
module

public import proofs.«01_k».proof.Proof.ReferencePrefix
public import proofs.«01_k».proof.Proof.Row
public import Idealize.ShloMosaic.Lib.Pointwise
public import Idealize.ShloMosaic.Lib.IdealHost

@[expose] public section

set_option maxRecDepth 16384

noncomputable section

namespace Cert.Proof.ReferenceIdeal

open Cert.ReferenceIdeal Cert.Proof.HostLine
open Cert.ReferenceIdeal.Facts₀
open Idealize.ShloMosaic Idealize.ShloMosaic.StableHlo Idealize.SL.Sem

/-! ## The arg-max's body -/

/-- A value and its column. -/
abbrev Pair : Type := EReal × BitVec 32

/-- The first pair's value is greater, or the values are equal and its column is no later. -/
def Beats (a b : Pair) : Prop := b.1 < a.1 ∨ (b.1 = a.1 ∧ a.2.toInt ≤ b.2.toInt)

theorem Beats.refl (a : Pair) : Beats a a := Or.inr ⟨rfl, le_rfl⟩

theorem Beats.trans {a b c : Pair} (h : Beats a b) (h' : Beats b c) : Beats a c := by
  rcases h with h | ⟨h, hi⟩
  · rcases h' with h' | ⟨h', _⟩
    · exact Or.inl (h'.trans h)
    · exact Or.inl (h' ▸ h)
  · rcases h' with h' | ⟨h', hi'⟩
    · exact Or.inl (h ▸ h')
    · exact Or.inr ⟨h'.trans h, hi.trans hi'⟩

/-- The body's two selections, its three comparisons given. -/
theorem body_flags (a b : Pair) (p q r : Bool) :
    (Scalar.select (IntOp.ori (BitVec.ofBool p) (BitVec.ofBool false)) a.1 b.1,
      Scalar.select (IntOp.ori (IntOp.ori (BitVec.ofBool p) (BitVec.ofBool false)) (IntOp.andi (BitVec.ofBool q) (BitVec.ofBool r))) a.2 b.2)
      = (if p then a.1 else b.1, if p || (q && r) then a.2 else b.2) := by
  cases p <;> cases q <;> cases r <;> rfl

theorem body_eq (a b : Pair) :
    reducer_argmax_f32_i32 (F := Ideal) a b
      = (if b.1 < a.1 then a.1 else b.1, if b.1 < a.1 ∨ (a.1 = b.1 ∧ a.2.toInt < b.2.toInt) then a.2 else b.2) := by
  have e := body_flags a b (decide (b.1 < a.1)) (decide (a.1 = b.1)) (decide (a.2.toInt < b.2.toInt))
  simp only [Bool.or_eq_true, Bool.and_eq_true, decide_eq_true_eq] at e
  refine Eq.trans ?_ e
  have h1 : FloatOps.cmpf (F := Ideal) (φ := .f32) .une a.1 a.1 = BitVec.ofBool false := by
    show Ideal.cmp .une a.1 a.1 = _
    simp [Ideal.cmp]
  have h2 : IntOp.cmpi .slt a.2 b.2 = BitVec.ofBool (decide (a.2.toInt < b.2.toInt)) := rfl
  unfold reducer_argmax_f32_i32
  dsimp only
  rw [h1, h2]
  rfl

/-- The body gives one of its two pairs, which beats the other. -/
theorem body_cases (a b : Pair) :
    (reducer_argmax_f32_i32 (F := Ideal) a b = a ∧ Beats a b) ∨ (reducer_argmax_f32_i32 (F := Ideal) a b = b ∧ Beats b a) := by
  rw [body_eq]
  by_cases h : b.1 < a.1
  · left
    rw [if_pos h, if_pos (Or.inl h)]
    exact ⟨rfl, Or.inl h⟩
  · by_cases h' : a.1 = b.1 ∧ a.2.toInt < b.2.toInt
    · left
      rw [if_neg h, if_pos (Or.inr h'), ← h'.1]
      exact ⟨rfl, Or.inr ⟨h'.1.symm, h'.2.le⟩⟩
    · right
      rw [if_neg h, if_neg (not_or.mpr ⟨h, h'⟩)]
      refine ⟨rfl, ?_⟩
      rcases lt_or_eq_of_le (not_lt.mp h) with h1 | h1
      · exact Or.inl h1
      · exact Or.inr ⟨h1, not_lt.mp fun h2 => h' ⟨h1, h2⟩⟩

/-- The fold gives one of the pairs it meets, which beats them all. -/
theorem fold_beats (l : List Pair) (p : Pair) :
    l.foldl (reducer_argmax_f32_i32 (F := Ideal)) p ∈ p :: l ∧ ∀ q ∈ p :: l, Beats (l.foldl (reducer_argmax_f32_i32 (F := Ideal)) p) q := by
  induction l generalizing p with
  | nil =>
    refine ⟨List.mem_singleton.mpr rfl, fun q hq => ?_⟩
    rw [List.mem_singleton.mp hq]
    exact Beats.refl p
  | cons a l ih =>
    rw [List.foldl_cons]
    obtain ⟨hm, hb⟩ := ih (reducer_argmax_f32_i32 (F := Ideal) p a)
    have hself := hb _ List.mem_cons_self
    have hrest : ∀ q ∈ l, Beats (l.foldl (reducer_argmax_f32_i32 (F := Ideal)) (reducer_argmax_f32_i32 (F := Ideal) p a)) q :=
      fun q hq => hb q (List.mem_cons_of_mem _ hq)
    generalize l.foldl (reducer_argmax_f32_i32 (F := Ideal)) (reducer_argmax_f32_i32 (F := Ideal) p a) = R at hm hself hrest
    have hpa : Beats R p ∧ Beats R a := by
      rcases body_cases p a with ⟨e, h⟩ | ⟨e, h⟩ <;> rw [e] at hself
      · exact ⟨hself, hself.trans h⟩
      · exact ⟨hself.trans h, hself⟩
    refine ⟨?_, fun q hq => ?_⟩
    · rcases List.mem_cons.mp hm with h | h
      · rw [h]
        rcases body_cases p a with ⟨e, _⟩ | ⟨e, _⟩ <;> rw [e]
        · exact List.mem_cons_self
        · exact List.mem_cons_of_mem _ List.mem_cons_self
      · exact List.mem_cons_of_mem _ (List.mem_cons_of_mem _ h)
    · rcases List.mem_cons.mp hq with rfl | hq
      · exact hpa.1
      · rcases List.mem_cons.mp hq with rfl | hq
        · exact hpa.2
        · exact hrest q hq

/-! ## The pairs of a row -/

theorem drop_row (n : S16384x1000.Idx) (i : Fin 16384) :
    (reducesTo_S16384x1000_S16384_d1.drop n : S16384.Idx) = ix1 i ↔ n 0 = i := by
  have e : (reducesTo_S16384x1000_S16384_d1.drop n 0 : ℕ) = n 0 := Shape.ReducesTo.drop_apply_val_of_eq _ n 0 0
  constructor
  · intro h
    rw [h] at e
    exact Fin.ext e.symm
  · intro h
    funext a
    obtain rfl : a = 0 := Subsingleton.elim _ _
    exact Fin.ext (e.trans (congrArg Fin.val h))

/-- A row's pairs: its entries, each with its column. -/
theorem mem_pairs (S : FVec Ideal S16384x1000 .f32) (i : Fin 16384) (p : Pair) :
    p ∈ Host.argReduceFiber (S : S16384x1000.Idx → EReal) (iotaInDim S16384x1000 32 1) reducesTo_S16384x1000_S16384_d1 (ix1 i)
      ↔ ∃ k : Fin 1000, p = (S (ix2 i k), BitVec.ofNat 32 k) := by
  unfold Host.argReduceFiber
  constructor
  · intro h
    obtain ⟨n, hn, rfl⟩ := List.mem_map.mp h
    have hd := of_decide_eq_true (List.mem_filter.mp hn).2
    generalize S16384x1000.rowMajor.symm n = m at hd ⊢
    have h0 := (drop_row m i).mp hd
    refine ⟨m 1, ?_⟩
    have e : m = ix2 i (m 1) := by rw [← h0]; exact eq_ix2 m
    exact Prod.ext (congrArg S e) rfl
  · rintro ⟨k, rfl⟩
    refine List.mem_map.mpr ⟨S16384x1000.rowMajor (ix2 i k), List.mem_filter.mpr ⟨List.mem_finRange _, ?_⟩, ?_⟩
    · rw [Equiv.symm_apply_apply]
      exact decide_eq_true ((drop_row _ i).mpr rfl)
    · rw [Equiv.symm_apply_apply]
      rfl

theorem argmax_eq (S : FVec Ideal S16384x1000 .f32) : argmax S = fun j =>
    (Host.argReduce (F := Ideal) (φ := .f32) reducer_argmax_f32_i32 S (iotaInDim S16384x1000 32 1) (constant S_ .f32 0xFF800000#32)
      (constantI S_ 32 0#32) reducesTo_S16384x1000_S16384_d1 h_S_ j).2 := rfl

/-- On a good row the arg-max of the softmax is the first column where the row is greatest. -/
theorem argmax_first (S : FVec Ideal S16384x1000 .f32) (i : Fin 16384) (x : Fin 1000 → EReal) (hx : Row.Good x)
    (hS : ∀ k, S (ix2 i k) = Row.soft x k) :
    argmax S (ix1 i) = Row.first x := by
  rw [argmax_eq]
  beta_reduce
  rw [Ideal.argReduce_eq_reduce2, Host.reduce2_eq_foldl_fiber]
  obtain ⟨hm, hb⟩ := fold_beats
    (Host.argReduceFiber (S : S16384x1000.Idx → EReal) (iotaInDim S16384x1000 32 1) reducesTo_S16384x1000_S16384_d1 (ix1 i))
    (Ideal.ofBits .f32 0xFF800000#32, 0#32)
  have hp := mem_pairs S i
  show (List.foldl (reducer_argmax_f32_i32 (F := Ideal)) (Ideal.ofBits .f32 0xFF800000#32, 0#32) _).2 = _
  generalize Host.argReduceFiber (S : S16384x1000.Idx → EReal) (iotaInDim S16384x1000 32 1) reducesTo_S16384x1000_S16384_d1 (ix1 i) = l at hm hb hp ⊢
  generalize List.foldl (reducer_argmax_f32_i32 (F := Ideal)) (Ideal.ofBits .f32 0xFF800000#32, 0#32) l = R at hm hb ⊢
  have hR : ∀ k, Beats R (Row.soft x k, BitVec.ofNat 32 k) := fun k =>
    hb _ (List.mem_cons_of_mem _ ((hp _).mpr ⟨k, by rw [hS]⟩))
  have hle : ∀ k, Row.soft x k ≤ R.1 := fun k => (hR k).elim le_of_lt fun h => h.1.le
  obtain ⟨k₀, hk₀⟩ := Row.exists_top x
  have hc : Row.conf x ≤ R.1 := Row.soft_top x hx hk₀ ▸ hle k₀
  rcases List.mem_cons.mp hm with h | h
  · rw [h, Row.ofBits_neg_inf] at hc
    exact absurd ((Row.conf_good x hx).1.trans_le hc) not_lt_bot
  · obtain ⟨k, rfl⟩ := (hp _).mp h
    have hk : x k = Row.top x := by
      by_contra hne
      have := Row.soft_lt x hx hne
      rw [hS] at hc
      exact absurd hc (not_le.mpr this)
    refine (Row.first_eq x hk fun j hj => ?_).symm
    rcases hR j with h' | ⟨_, h'⟩
    · rw [hS, Row.soft_top x hx hk, Row.soft_top x hx hj] at h'
      exact absurd h' (lt_irrefl _)
    · have h2 : (BitVec.ofNat 32 k).toInt ≤ (BitVec.ofNat 32 j).toInt := h'
      rw [Row.toInt_col, Row.toInt_col] at h2
      exact Fin.le_def.mpr (by exact_mod_cast h2)

end Cert.Proof.ReferenceIdeal
end
-- ==== Proof.ReferenceResult.lean ====
/-
  What the reference computes, at the extended reals: the first bin's term, the other bins being empty.
-/
module

public import proofs.«01_k».proof.Proof.ReferenceValue
public import proofs.«01_k».proof.Proof.ReferenceArgmax

@[expose] public section

set_option maxRecDepth 16384

noncomputable section

namespace Cert.Proof.ReferenceIdeal

open Cert.ReferenceIdeal Cert.Proof.HostLine
open Cert.ReferenceIdeal.Facts₀
open Idealize.ShloMosaic Idealize.ShloMosaic.StableHlo Idealize.SL.Sem

/-- Flags as floats. -/
abbrev asFloats (hit : BufTy.Contents (Elt Ideal) tM) : BufTy.Contents (Elt Ideal) tV := uitofp (F := Ideal) .f32 hit

/-! ## A bin's sums, its rows being those with a property -/

section
variable {p : Fin 16384 → Prop} [DecidablePred p] {k : BufTy.Contents (Elt Ideal) tM} (hk : ∀ i, k (ix1 i) = if p i then 1#1 else 0#1)

include hk in
theorem sumIn_apply (v : BufTy.Contents (Elt Ideal) tV) (j : S_.Idx) : sumIn k v j = ∑ i, if p i then v (ix1 i) else 0 := by
  unfold sumIn
  pointwise
  refine Finset.sum_congr rfl fun i _ => ?_
  rw [hk]
  by_cases h : p i
  · rw [if_pos h, if_pos h]; rfl
  · rw [if_neg h, if_neg h]; rfl

/-- A sum of at most `2^31` flags does not overflow. -/
theorem fold_flags (s : Finset (Fin 16384)) (f : Fin 16384 → BitVec 32) (hf : ∀ i, f i = if p i then 1#32 else 0#32) :
    (s.fold IntOp.addi 0#32 f).toNat = (s.filter p).card := by
  induction s using Finset.induction_on with
  | empty => rfl
  | insert a s ha ih =>
    rw [Finset.fold_insert ha, hf]
    have hc : (s.filter p).card ≤ 16384 := (Finset.card_le_univ _).trans_eq (Fintype.card_fin _)
    show ((if p a then 1#32 else 0#32) + s.fold IntOp.addi 0#32 f).toNat = _
    rw [BitVec.toNat_add, ih]
    by_cases h : p a
    · rw [if_pos h, Finset.filter_insert, if_pos h, Finset.card_insert_of_notMem fun h' => ha (Finset.mem_filter.mp h').1]
      rw [show (1#32).toNat = 1 from rfl, Nat.mod_eq_of_lt (by omega), Nat.add_comm]
    · rw [if_neg h, Finset.filter_insert, if_neg h, show (0#32).toNat = 0 from rfl, Nat.zero_add, Nat.mod_eq_of_lt (by omega)]

theorem card_eq_sum (s : Finset (Fin 16384)) : (((s.filter p).card : ℝ) : EReal) = ∑ i ∈ s, if p i then (1 : EReal) else 0 := by
  rw [Finset.card_filter, Nat.cast_sum, ← Row.sum_coe]
  refine Finset.sum_congr rfl fun i _ => ?_
  by_cases h : p i <;> simp [h]

/-- The greater of a count and one, as a float. -/
theorem toInt_maxsi_one (a : BitVec 32) (n : ℕ) (hn : n ≤ 16384) (ha : a.toNat = n) :
    (((IntOp.maxsi a 1#32).toInt : ℝ) : EReal) = max (((n : ℝ) : EReal)) 1 := by
  have hi : a.toInt = n := by rw [BitVec.toInt_eq_toNat_of_lt (by omega), ha]
  have e : (IntOp.maxsi a 1#32).toInt = max (n : ℤ) 1 := by
    have h1 : (1#32).toInt = 1 := by decide
    unfold IntOp.maxsi
    split <;> rename_i hc <;> simp [BitVec.slt] at hc <;> omega
  rw [e]
  by_cases h : (n : ℤ) < 1
  · have h' : (n : ℝ) ≤ 1 := by exact_mod_cast h.le
    rw [max_eq_right h.le, max_eq_right (by rw [← EReal.coe_one]; exact EReal.coe_le_coe_iff.mpr h')]
    simp
  · have h' : (1 : ℝ) ≤ n := by exact_mod_cast not_lt.mp h
    rw [max_eq_left (not_lt.mp h), max_eq_left (by rw [← EReal.coe_one]; exact EReal.coe_le_coe_iff.mpr h')]
    simp

include hk in
theorem count_apply (j : S_.Idx) : count k j = max (∑ i, if p i then (1 : EReal) else 0) 1 := by
  unfold count
  pointwise
  rw [← card_eq_sum]
  refine toInt_maxsi_one _ _ ((Finset.card_le_univ _).trans_eq (Fintype.card_fin _)) (fold_flags _ _ fun i => ?_)
  rw [hk]
  by_cases h : p i
  · rw [if_pos h, if_pos h]; rfl
  · rw [if_neg h, if_neg h]; rfl

/-- A flag read as a float. -/
theorem uitofp_flag (q : Prop) [Decidable q] : (FloatOps.uitofp (F := Ideal) FTy.f32 (if q then 1#1 else 0#1) : EReal) = if q then 1 else 0 := by
  by_cases h : q
  · rw [if_pos h, if_pos h]
    show (((1#1).toNat : ℝ) : EReal) = 1
    simp
  · rw [if_neg h, if_neg h]
    show (((0#1).toNat : ℝ) : EReal) = 0
    simp

include hk in
theorem share_apply (j : S_.Idx) : share k j = Ideal.div (∑ i, if p i then (1 : EReal) else 0) (Ideal.ofBits .f32 0x46800000#32) := by
  unfold share
  pointwise
  have e : ∀ i, (FloatOps.uitofp (F := Ideal) FTy.f32 (k (ix1 i)) : EReal) = if p i then 1 else 0 := fun i => by
    rw [hk]
    exact uitofp_flag (p i)
  exact congrArg (fun z : EReal => Ideal.div z (Ideal.ofBits .f32 0x46800000#32)) (Finset.sum_congr rfl fun i _ => e i)

include hk in
/-- A bin's term, from its count, its summed confidence and its summed accuracy. -/
theorem term_apply (conf : BufTy.Contents (Elt Ideal) tV) (hit : BufTy.Contents (Elt Ideal) tM) (T : Fin 3 → EReal)
    (h0 : ∑ i, (if p i then (1 : EReal) else 0) = T 0) (h1 : ∑ i, (if p i then conf (ix1 i) else 0) = T 1)
    (h2 : ∑ i, (if p i then asFloats hit (ix1 i) else 0) = T 2) (j : S_.Idx) : term k conf hit j = Row.ece T := by
  have ec := count_apply hk j
  have es := share_apply hk j
  have e1 := sumIn_apply hk conf j
  have e2 := sumIn_apply hk (asFloats hit) j
  rw [h0] at ec es
  rw [h1] at e1
  rw [h2] at e2
  unfold Row.ece
  show mulf (Host.absf (subf (Host.divf (sumIn k conf) (count k)) (Host.divf (sumIn k (asFloats hit)) (count k)))) (share k) j = _
  generalize sumIn k conf = a at e1 ⊢
  generalize sumIn k (asFloats hit) = b at e2 ⊢
  generalize count k = c at ec ⊢
  generalize share k = d at es ⊢
  pointwise
  rw [ec, es, e1, e2]
end

/-! ## The bins -/

theorem and_flags (p q : Prop) [Decidable p] [Decidable q] :
    IntOp.andi (BitVec.ofBool (decide p)) (BitVec.ofBool (decide q)) = if p ∧ q then 1#1 else 0#1 := by
  by_cases hp : p <;> by_cases hq : q <;> simp [hp, hq] <;> rfl

section
variable (X : BufTy.Contents (Elt Ideal) tX) (Y : BufTy.Contents (Elt Ideal) tY)

/-- A bin's flag at a row. -/
theorem inBin_flag (lo up : BufTy.Contents (Elt Ideal) tB) (c : BufTy.Contents (Elt Ideal) tV) (b : Fin 15) (i : Fin 16384) :
    inBin lo up c b (ix1 i) = IntOp.andi (BitVec.ofBool (decide (lo (ix1 b) < c (ix1 i)))) (BitVec.ofBool (decide (c (ix1 i) ≤ up (ix1 b)))) := by
  unfold inBin
  pointwise

open Classical in
theorem inBin_apply (b : Fin 15) (i : Fin 16384) :
    inBin lows highs (confs X) b (ix1 i) = if b = 0 ∧ Row.Good (rowOf X i) then 1#1 else 0#1 := by
  have hb := in_bin_iff (rowOf X i) b
  rw [← confs_apply X i] at hb
  refine (inBin_flag lows highs (confs X) b i).trans ((and_flags _ _).trans ?_)
  by_cases h : b = 0 ∧ Row.Good (rowOf X i)
  · rw [if_pos h, if_pos (hb.mpr h)]
  · rw [if_neg h, if_neg fun h' => h (hb.mp h')]

theorem preds_apply (i : Fin 16384) (h : Row.Good (rowOf X i)) : preds X (ix1 i) = Row.first (rowOf X i) := by
  unfold preds
  exact argmax_first (softs X) i (rowOf X i) h (softs_apply X i)

/-- A comparison with the label, read as a float. -/
theorem same_apply (P : BufTy.Contents (Elt Ideal) tY) (i : Fin 16384) :
    asFloats (cmpi .eq P Y) (ix1 i) = if P (ix1 i) = Y (ix1 i) then (1 : EReal) else 0 := by
  refine Eq.trans ?_ (uitofp_flag _)
  show FloatOps.uitofp (F := Ideal) FTy.f32 (IntOp.cmpi CmpIPredicate.eq (P (ix1 i)) (Y (ix1 i))) = _
  generalize P (ix1 i) = u
  generalize Y (ix1 i) = v
  refine congrArg (FloatOps.uitofp (F := Ideal) FTy.f32) ?_
  by_cases h : u = v
  · rw [if_pos h, h]; simp [IntOp.cmpi]
  · have hb : (u == v) = false := by simpa using h
    rw [if_neg h]; simp [IntOp.cmpi, hb]

/-- On a good row the prediction is right when the first greatest column is the label. -/
theorem hits_apply (i : Fin 16384) (h : Row.Good (rowOf X i)) : asFloats (hits X Y) (ix1 i) = Row.hit (rowOf X i) (Y (ix1 i)) := by
  have e := preds_apply X i h
  unfold hits Row.hit
  generalize preds X = P at e ⊢
  rw [same_apply, e]

/-- The sums over all rows. -/
abbrev totals : Fin 3 → EReal := Row.total (rowOf X) fun i => Y (ix1 i)

theorem term_first (j : S_.Idx) : term (inBin lows highs (confs X) 0) (confs X) (hits X Y) j = Row.ece (totals X Y) := by
  classical
  refine term_apply (inBin_apply X 0) (confs X) (hits X Y) (totals X Y) ?_ ?_ ?_ j <;>
    refine Finset.sum_congr rfl fun i _ => ?_ <;> unfold Row.gain <;> by_cases h : Row.Good (rowOf X i)
  · simp [h]
  · simp [h]
  · rw [if_pos ⟨rfl, h⟩, confs_apply, Row.sup_soft_good _ h]
    simp [h]
  · simp [h]
  · rw [if_pos ⟨rfl, h⟩, hits_apply X Y i h]
    simp [h]
  · simp [h]

theorem term_rest {b : Fin 15} (hb : b ≠ 0) (j : S_.Idx) : term (inBin lows highs (confs X) b) (confs X) (hits X Y) j = 0 := by
  classical
  refine (term_apply (inBin_apply X b) (confs X) (hits X Y) (fun _ => 0) ?_ ?_ ?_ j).trans ?_
  · exact Finset.sum_eq_zero fun i _ => if_neg fun h => hb h.1
  · exact Finset.sum_eq_zero fun i _ => if_neg fun h => hb h.1
  · exact Finset.sum_eq_zero fun i _ => if_neg fun h => hb h.1
  · unfold Row.ece
    rw [Row.div_rows_zero, mul_zero]
end

/-! ## The total -/

section
variable {W : Valuation τ sig (Elt Ideal)} (hW : ∀ op ∈ ops (F := Ideal), op.result W = W)

/-- The logits. -/
abbrev inX (W : Valuation τ sig (Elt Ideal)) : BufTy.Contents (Elt Ideal) tX := get W (.of main_arg0 : TRef sig tX)
/-- The labels. -/
abbrev inY (W : Valuation τ sig (Elt Ideal)) : BufTy.Contents (Elt Ideal) tY := get W (.of main_arg1 : TRef sig tY)

include hW in
theorem tot_succ (b : Fin 15) (j : S1.Idx) : get W (tot b.succ) j
    = get W (tot b.castSucc) j + if b = 0 then Row.ece (totals (inX W) (inY W)) else 0 := by
  obtain ⟨h1, h2, h3, h4, _⟩ := get_pre hW
  have e := get_bin hW b
  rw [h1, h2, h3, h4] at e
  refine (congrFun e j).trans (congrArg (get W (tot b.castSucc) j + ·) ?_)
  by_cases hb : b = 0
  · subst hb
    rw [if_pos rfl]
    exact term_first (inX W) (inY W) _
  · rw [if_neg hb]
    exact term_rest (inX W) (inY W) hb _

include hW in
theorem tot_zero (j : S1.Idx) : get W (tot 0) j = (0 : EReal) := by
  obtain ⟨_, _, _, _, h⟩ := get_pre hW
  rw [h]
  pointwise

include hW in
/-- After any number of bins, none excepted, the total is the first bin's term. -/
theorem tot_all (b : Fin 16) (j : S1.Idx) : get W (tot b) j = if b = 0 then 0 else Row.ece (totals (inX W) (inY W)) := by
  induction b using Fin.induction with
  | zero => exact (tot_zero hW j).trans (if_pos rfl).symm
  | succ b ih =>
    rw [tot_succ hW b j, ih, if_neg (Fin.succ_ne_zero b)]
    by_cases hb : b = 0
    · subst hb
      exact (congrArg₂ (· + ·) (if_pos rfl) (if_pos rfl)).trans (zero_add _)
    · have hb' : b.castSucc ≠ 0 := fun h => hb (Fin.castSucc_eq_zero_iff.mp h)
      rw [if_neg hb', if_neg hb, add_zero]
end

end Cert.Proof.ReferenceIdeal
end
-- ==== Proof.Algebraic.lean ====
/-
  The kernel and the reference give equal results from equal arguments.
-/
module

public import proofs.«01_k».proof.Defs
public import proofs.«01_k».proof.Proof.KernelIdealResult
public import proofs.«01_k».proof.Proof.ReferenceResult

@[expose] public section

set_option maxRecDepth 16384

noncomputable section

namespace Cert.Proof

open Idealize.ShloMosaic Idealize.ShloMosaic.TcCoe
open Idealize.SL.Sem

namespace ReferenceIdeal
open Cert.ReferenceIdeal

variable (m : (ℓ : Loc nD τ sig) → Buf (Elt Ideal) ℓ) (d : Dev nD)

/-- The reference's result, read from its memory at the start. -/
theorem fin_result : fin m d (Proc.devRef .tc main_v440)
    = fun _ => Row.ece (Row.total (fun i j => m ((d.tc : Thread nD τ).loc main_arg0) (ix2 i j))
      (fun i => m ((d.tc : Thread nD τ).loc main_arg1) (ix1 i))) := by
  funext j
  have h := tot_all (W := fin m d) (fin_fixed m d) 15 j
  rw [if_neg (by decide)] at h
  have e0 : inX (fin m d) = m ((d.tc : Thread nD τ).loc main_arg0) := fin_arg0 m d
  have e1 : inY (fin m d) = m ((d.tc : Thread nD τ).loc main_arg1) := fin_arg1 m d
  rw [e0, e1] at h
  exact h
end ReferenceIdeal

/-- Both programs end with the first bin's term of the same rows and labels, the arguments unchanged. -/
theorem algebraic : Cert.algebraic_KernelIdeal_ReferenceIdeal (hKernelIdeal := Cert.KernelIdeal.Gen.facts)
    (hReferenceIdeal := Cert.ReferenceIdeal.Gen.facts) := by
  intro m g m' g' _ harg
  refine ⟨fun c => fun _ => Row.ece (Row.total (KernelIdeal.rows m c) (KernelIdeal.labels m c)), KernelIdeal.run_value m g, ?_⟩
  refine (θ_run _ _ _).mono (fun r h c => ⟨?_, ?_, ?_⟩) (ReferenceIdeal.run (F := Ideal) m' g')
  · refine (h c _).trans ((ReferenceIdeal.fin_result m' c).trans ?_)
    rw [(harg c).1, (harg c).2]
    rfl
  · exact (h c _).trans (ReferenceIdeal.fin_arg0 m' c)
  · exact (h c _).trans (ReferenceIdeal.fin_arg1 m' c)

end Cert.Proof
end
-- ==== Proof.lean ====
/-
  The claims of the certificate, put together from the modules that prove them.
-/
module

public import proofs.«01_k».proof.Defs
public import proofs.«01_k».proof.Proof.KernelFrame
public import proofs.«01_k».proof.Proof.ReferenceFrame
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof
end
